-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x768 : Shape := ⟨2, ![1024, 768]⟩
abbrev S12x768x768 : Shape := ⟨3, ![12, 768, 768]⟩
abbrev S12x8x16x768 : Shape := ⟨4, ![12, 8, 16, 768]⟩
abbrev S12x8x768x16 : Shape := ⟨4, ![12, 8, 768, 16]⟩
abbrev S8x100x768 : Shape := ⟨3, ![8, 100, 768]⟩
abbrev S8x100 : Shape := ⟨2, ![8, 100]⟩
abbrev S12x128x768 : Shape := ⟨3, ![12, 128, 768]⟩
abbrev S1024x100 : Shape := ⟨2, ![1024, 100]⟩
abbrev S1x768x768 : Shape := ⟨3, ![1, 768, 768]⟩
abbrev S1x128x768 : Shape := ⟨3, ![1, 128, 768]⟩
abbrev S1024x8 : Shape := ⟨2, ![1024, 8]⟩
abbrev S1024x128 : Shape := ⟨2, ![1024, 128]⟩
abbrev S128x8 : Shape := ⟨2, ![128, 8]⟩
abbrev S128x768 : Shape := ⟨2, ![128, 768]⟩
abbrev S1024 : Shape := ⟨1, ![1024]⟩
abbrev S1024x1 : Shape := ⟨2, ![1024, 1]⟩
abbrev S8x8 : Shape := ⟨2, ![8, 8]⟩
abbrev S768x768 : Shape := ⟨2, ![768, 768]⟩
abbrev S1x100x768 : Shape := ⟨3, ![1, 100, 768]⟩
abbrev S100x768 : Shape := ⟨2, ![100, 768]⟩
abbrev S1x100 : Shape := ⟨2, ![1, 100]⟩

abbrev nBuf : Space → Nat
  | .hbm => 10
  | .vmem => 15
  | .smem => 0
  | _ => 0

abbrev bufTy : (tb : Table) → Fin (tcTables nBuf tb) → BufTy
  | .hbm, ⟨0, _⟩ => ⟨S1024x768, .f32⟩
  | .hbm, ⟨1, _⟩ => ⟨S12x768x768, .f32⟩
  | .hbm, ⟨2, _⟩ => ⟨S12x8x16x768, .f32⟩
  | .hbm, ⟨3, _⟩ => ⟨S12x8x768x16, .f32⟩
  | .hbm, ⟨4, _⟩ => ⟨S8x100x768, .f32⟩
  | .hbm, ⟨5, _⟩ => ⟨S8x100, .f32⟩
  | .hbm, ⟨6, _⟩ => ⟨S12x128x768, .f32⟩
  | .hbm, ⟨7, _⟩ => ⟨S12x8x16x768, .f32⟩
  | .hbm, ⟨8, _⟩ => ⟨S12x128x768, .f32⟩
  | .hbm, ⟨9, _⟩ => ⟨S1024x100, .f32⟩
  | .local _ .vmem, ⟨0, _⟩ => ⟨S1024x768, .f32⟩
  | .local _ .vmem, ⟨1, _⟩ => ⟨S1x768x768, .f32⟩
  | .local _ .vmem, ⟨2, _⟩ => ⟨S1x768x768, .f32⟩
  | .local _ .vmem, ⟨3, _⟩ => ⟨S1x128x768, .f32⟩
  | .local _ .vmem, ⟨4, _⟩ => ⟨S1x128x768, .f32⟩
  | .local _ .vmem, ⟨5, _⟩ => ⟨S1x128x768, .f32⟩
  | .local _ .vmem, ⟨6, _⟩ => ⟨S1x128x768, .f32⟩
  | .local _ .vmem, ⟨7, _⟩ => ⟨S1x128x768, .f32⟩
  | .local _ .vmem, ⟨8, _⟩ => ⟨S8x100x768, .f32⟩
  | .local _ .vmem, ⟨9, _⟩ => ⟨S8x100, .f32⟩
  | .local _ .vmem, ⟨10, _⟩ => ⟨S1024x100, .f32⟩
  | .local _ .vmem, ⟨11, _⟩ => ⟨S1024x768, .f32⟩
  | .local _ .vmem, ⟨12, _⟩ => ⟨S1024x8, .f32⟩
  | .local _ .vmem, ⟨13, _⟩ => ⟨S1024x128, .f32⟩
  | .local _ .vmem, ⟨14, _⟩ => ⟨S1024x8, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![12], ![false]⟩

def k0_cond3 (i : grid0.Coords) : BitVec 1 :=
  let arg0 : BitVec 32 := BitVec.ofNat 32 (i 0).val
  let c11_i32_27 : BitVec 32 := 11#32
  let v69 : BitVec 1 := Scalar.cmpi .eq arg0 c11_i32_27
  let v70 : BitVec 32 := Scalar.extui v69
  let c0_i32_28 : BitVec 32 := 0#32
  let v71 : BitVec 1 := Scalar.cmpi .ne v70 c0_i32_28
  v71

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c11_i32 : BitVec 32 := 11#32
  let v1 : BitVec 32 := Scalar.minsi v0 c11_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x100x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1024x768 : Shape := ⟨2, ![1024, 768]⟩
abbrev S12x768x768 : Shape := ⟨3, ![12, 768, 768]⟩
abbrev S12x8x16x768 : Shape := ⟨4, ![12, 8, 16, 768]⟩
abbrev S12x8x768x16 : Shape := ⟨4, ![12, 8, 768, 16]⟩
abbrev S8x100x768 : Shape := ⟨3, ![8, 100, 768]⟩
abbrev S8x100 : Shape := ⟨2, ![8, 100]⟩
abbrev S11x768x768 : Shape := ⟨3, ![11, 768, 768]⟩
abbrev S11x8x16x768 : Shape := ⟨4, ![11, 8, 16, 768]⟩
abbrev S11x8x768x16 : Shape := ⟨4, ![11, 8, 768, 16]⟩
abbrev S_ : Shape := ⟨0, ![]⟩
abbrev S11x1024 : Shape := ⟨2, ![11, 1024]⟩
abbrev S1x768x768 : Shape := ⟨3, ![1, 768, 768]⟩
abbrev S768x768 : Shape := ⟨2, ![768, 768]⟩
abbrev S1x8x16x768 : Shape := ⟨4, ![1, 8, 16, 768]⟩
abbrev S8x16x768 : Shape := ⟨3, ![8, 16, 768]⟩
abbrev S1x8x768x16 : Shape := ⟨4, ![1, 8, 768, 16]⟩
abbrev S8x768x16 : Shape := ⟨3, ![8, 768, 16]⟩
abbrev S1024x8x16 : Shape := ⟨3, ![1024, 8, 16]⟩
abbrev S1024x8 : Shape := ⟨2, ![1024, 8]⟩
abbrev S1024 : Shape := ⟨1, ![1024]⟩
abbrev S1024x1x1 : Shape := ⟨3, ![1024, 1, 1]⟩
abbrev S1 : Shape := ⟨1, ![1]⟩
abbrev S1x1x1 : Shape := ⟨3, ![1, 1, 1]⟩
abbrev S1024x1 : Shape := ⟨2, ![1024, 1]⟩
abbrev S1024x1x16 : Shape := ⟨3, ![1024, 1, 16]⟩
abbrev S1024x16 : Shape := ⟨2, ![1024, 16]⟩
abbrev S1x1 : Shape := ⟨2, ![1, 1]⟩
abbrev S1024x768x16 : Shape := ⟨3, ![1024, 768, 16]⟩
abbrev S1x1024 : Shape := ⟨2, ![1, 1024]⟩
abbrev S12x1024 : Shape := ⟨2, ![12, 1024]⟩
abbrev S12x1024x1 : Shape := ⟨3, ![12, 1024, 1]⟩
abbrev S1x1x8 : Shape := ⟨3, ![1, 1, 8]⟩
abbrev S12x1024x8 : Shape := ⟨3, ![12, 1024, 8]⟩
abbrev S1024x8x100 : Shape := ⟨3, ![1024, 8, 100]⟩
abbrev S1x8x100 : Shape := ⟨3, ![1, 8, 100]⟩
abbrev S1x8 : Shape := ⟨2, ![1, 8]⟩
abbrev S1024x100 : Shape := ⟨2, ![1024, 100]⟩

abbrev nBuf : Space → Nat
  | .hbm => 216
  | .vmem => 0
  | .smem => 0
  | _ => 0

abbrev hbmTy0_0 (i : Nat) : BufTy := match i % 128 with
  | 0 => ⟨S1024x768, .f32⟩
  | 1 => ⟨S12x768x768, .f32⟩
  | 2 => ⟨S12x8x16x768, .f32⟩
  | 3 => ⟨S12x8x768x16, .f32⟩
  | 4 => ⟨S8x100x768, .f32⟩
  | 5 => ⟨S8x100, .f32⟩
  | 6 => ⟨S11x768x768, .f32⟩
  | 7 => ⟨S11x8x16x768, .f32⟩
  | 8 => ⟨S11x8x768x16, .f32⟩
  | 9 => ⟨S_, .i32⟩
  | 10 => ⟨S11x1024, .i32⟩
  | 11 => ⟨S_, .i32⟩
  | 12 => ⟨S11x768x768, .f32⟩
  | 13 => ⟨S11x8x16x768, .f32⟩
  | 14 => ⟨S11x8x768x16, .f32⟩
  | 15 => ⟨S_, .i32⟩
  | 16 => ⟨S1024x768, .f32⟩
  | 17 => ⟨S11x1024, .i32⟩
  | 18 => ⟨S_, .i32⟩
  | 19 => ⟨S_, .i1⟩
  | 20 => ⟨S_, .i32⟩
  | 21 => ⟨S_, .i32⟩
  | 22 => ⟨S1x768x768, .f32⟩
  | 23 => ⟨S768x768, .f32⟩
  | 24 => ⟨S_, .i32⟩
  | 25 => ⟨S_, .i32⟩
  | 26 => ⟨S_, .i32⟩
  | 27 => ⟨S1x8x16x768, .f32⟩
  | 28 => ⟨S8x16x768, .f32⟩
  | 29 => ⟨S_, .i32⟩
  | 30 => ⟨S_, .i32⟩
  | 31 => ⟨S_, .i32⟩
  | 32 => ⟨S1x8x768x16, .f32⟩
  | 33 => ⟨S8x768x16, .f32⟩
  | 34 => ⟨S1024x8x16, .f32⟩
  | 35 => ⟨S1024x8x16, .f32⟩
  | 36 => ⟨S_, .f32⟩
  | 37 => ⟨S1024x8, .f32⟩
  | 38 => ⟨S_, .f32⟩
  | 39 => ⟨S1024x8, .f32⟩
  | 40 => ⟨S1024x8, .f32⟩
  | 41 => ⟨S1024x8, .f32⟩
  | 42 => ⟨S1024x8, .i32⟩
  | 43 => ⟨S_, .f32⟩
  | 44 => ⟨S_, .i32⟩
  | 45 => ⟨S1024, .f32⟩
  | 46 => ⟨S1024, .i32⟩
  | 47 => ⟨S768x768, .f32⟩
  | 48 => ⟨S1024x768, .f32⟩
  | 49 => ⟨S1024x1x1, .i32⟩
  | 50 => ⟨S_, .i32⟩
  | 51 => ⟨S1024x1x1, .i32⟩
  | 52 => ⟨S1024x1x1, .i1⟩
  | 53 => ⟨S_, .i32⟩
  | 54 => ⟨S1024x1x1, .i32⟩
  | 55 => ⟨S1024x1x1, .i32⟩
  | 56 => ⟨S1024x1x1, .i32⟩
  | 57 => ⟨S1, .i32⟩
  | 58 => ⟨S_, .i32⟩
  | 59 => ⟨S1024x1x1, .i32⟩
  | 60 => ⟨S1024x1x1, .i1⟩
  | 61 => ⟨S1x1x1, .i32⟩
  | 62 => ⟨S1024x1x1, .i32⟩
  | 63 => ⟨S1024x1x1, .i1⟩
  | 64 => ⟨S1024x1x1, .i1⟩
  | 65 => ⟨S_, .i1⟩
  | 66 => ⟨S1024x1, .i1⟩
  | 67 => ⟨S1024x1x16, .f32⟩
  | 68 => ⟨S1024x1x16, .i1⟩
  | 69 => ⟨S_, .f32⟩
  | 70 => ⟨S1024x1x16, .f32⟩
  | 71 => ⟨S1024x1x16, .f32⟩
  | 72 => ⟨S1024x16, .f32⟩
  | 73 => ⟨S_, .i32⟩
  | 74 => ⟨S1024, .i32⟩
  | 75 => ⟨S1024, .i1⟩
  | 76 => ⟨S_, .i32⟩
  | 77 => ⟨S1024, .i32⟩
  | 78 => ⟨S1024, .i32⟩
  | 79 => ⟨S1024, .i32⟩
  | 80 => ⟨S1024x1, .i32⟩
  | 81 => ⟨S1, .i32⟩
  | 82 => ⟨S_, .i32⟩
  | 83 => ⟨S1024x1, .i32⟩
  | 84 => ⟨S1024x1, .i1⟩
  | 85 => ⟨S1x1, .i32⟩
  | 86 => ⟨S1024x1, .i32⟩
  | 87 => ⟨S1024x1, .i1⟩
  | 88 => ⟨S1024x1, .i1⟩
  | 89 => ⟨S_, .i1⟩
  | 90 => ⟨S1024, .i1⟩
  | 91 => ⟨S1024x768x16, .f32⟩
  | 92 => ⟨S1024x768x16, .i1⟩
  | 93 => ⟨S_, .f32⟩
  | 94 => ⟨S1024x768x16, .f32⟩
  | 95 => ⟨S1024x768x16, .f32⟩
  | 96 => ⟨S1024x768, .f32⟩
  | 97 => ⟨S1024x768, .f32⟩
  | 98 => ⟨S1024x768, .f32⟩
  | 99 => ⟨S1024x768, .f32⟩
  | 100 => ⟨S_, .f32⟩
  | 101 => ⟨S1024x768, .f32⟩
  | 102 => ⟨S1024x768, .f32⟩
  | 103 => ⟨S1024x768, .f32⟩
  | 104 => ⟨S_, .f32⟩
  | 105 => ⟨S1024x768, .f32⟩
  | 106 => ⟨S1024x768, .f32⟩
  | 107 => ⟨S1024x768, .f32⟩
  | 108 => ⟨S_, .f32⟩
  | 109 => ⟨S1024x768, .f32⟩
  | 110 => ⟨S1024x768, .f32⟩
  | 111 => ⟨S_, .f32⟩
  | 112 => ⟨S1024x768, .f32⟩
  | 113 => ⟨S1024x768, .f32⟩
  | 114 => ⟨S1024x768, .f32⟩
  | 115 => ⟨S1x1024, .i32⟩
  | 116 => ⟨S_, .i32⟩
  | 117 => ⟨S11x1024, .i32⟩
  | 118 => ⟨S_, .i32⟩
  | 119 => ⟨S_, .i32⟩
  | 120 => ⟨S1x768x768, .f32⟩
  | 121 => ⟨S768x768, .f32⟩
  | 122 => ⟨S1x8x16x768, .f32⟩
  | 123 => ⟨S8x16x768, .f32⟩
  | 124 => ⟨S1x8x768x16, .f32⟩
  | 125 => ⟨S8x768x16, .f32⟩
  | 126 => ⟨S1024x8x16, .f32⟩
  | 127 => ⟨S1024x8x16, .f32⟩
  | _ => ⟨S1024x768, .f32⟩

abbrev hbmTy0_1 (i : Nat) : BufTy := match i % 128 with
  | 0 => ⟨S_, .f32⟩
  | 1 => ⟨S1024x8, .f32⟩
  | 2 => ⟨S_, .f32⟩
  | 3 => ⟨S1024x8, .f32⟩
  | 4 => ⟨S1024x8, .f32⟩
  | 5 => ⟨S1024x8, .f32⟩
  | 6 => ⟨S1024x8, .i32⟩
  | 7 => ⟨S_, .f32⟩
  | 8 => ⟨S_, .i32⟩
  | 9 => ⟨S1024, .f32⟩
  | 10 => ⟨S1024, .i32⟩
  | 11 => ⟨S768x768, .f32⟩
  | 12 => ⟨S1024x768, .f32⟩
  | 13 => ⟨S1024x1x1, .i32⟩
  | 14 => ⟨S_, .i32⟩
  | 15 => ⟨S1024x1x1, .i32⟩
  | 16 => ⟨S1024x1x1, .i1⟩
  | 17 => ⟨S_, .i32⟩
  | 18 => ⟨S1024x1x1, .i32⟩
  | 19 => ⟨S1024x1x1, .i32⟩
  | 20 => ⟨S1024x1x1, .i32⟩
  | 21 => ⟨S1, .i32⟩
  | 22 => ⟨S_, .i32⟩
  | 23 => ⟨S1024x1x1, .i32⟩
  | 24 => ⟨S1024x1x1, .i1⟩
  | 25 => ⟨S1x1x1, .i32⟩
  | 26 => ⟨S1024x1x1, .i32⟩
  | 27 => ⟨S1024x1x1, .i1⟩
  | 28 => ⟨S1024x1x1, .i1⟩
  | 29 => ⟨S_, .i1⟩
  | 30 => ⟨S1024x1, .i1⟩
  | 31 => ⟨S1024x1x16, .f32⟩
  | 32 => ⟨S1024x1x16, .i1⟩
  | 33 => ⟨S_, .f32⟩
  | 34 => ⟨S1024x1x16, .f32⟩
  | 35 => ⟨S1024x1x16, .f32⟩
  | 36 => ⟨S1024x16, .f32⟩
  | 37 => ⟨S_, .i32⟩
  | 38 => ⟨S1024, .i32⟩
  | 39 => ⟨S1024, .i1⟩
  | 40 => ⟨S_, .i32⟩
  | 41 => ⟨S1024, .i32⟩
  | 42 => ⟨S1024, .i32⟩
  | 43 => ⟨S1024, .i32⟩
  | 44 => ⟨S1024x1, .i32⟩
  | 45 => ⟨S1, .i32⟩
  | 46 => ⟨S_, .i32⟩
  | 47 => ⟨S1024x1, .i32⟩
  | 48 => ⟨S1024x1, .i1⟩
  | 49 => ⟨S1x1, .i32⟩
  | 50 => ⟨S1024x1, .i32⟩
  | 51 => ⟨S1024x1, .i1⟩
  | 52 => ⟨S1024x1, .i1⟩
  | 53 => ⟨S_, .i1⟩
  | 54 => ⟨S1024, .i1⟩
  | 55 => ⟨S1024x768x16, .f32⟩
  | 56 => ⟨S1024x768x16, .i1⟩
  | 57 => ⟨S_, .f32⟩
  | 58 => ⟨S1024x768x16, .f32⟩
  | 59 => ⟨S1024x768x16, .f32⟩
  | 60 => ⟨S1024x768, .f32⟩
  | 61 => ⟨S1024x768, .f32⟩
  | 62 => ⟨S1x1024, .i32⟩
  | 63 => ⟨S12x1024, .i32⟩
  | 64 => ⟨S12x1024x1, .i32⟩
  | 65 => ⟨S1x1x8, .i32⟩
  | 66 => ⟨S12x1024x8, .i32⟩
  | 67 => ⟨S12x1024x8, .i32⟩
  | 68 => ⟨S12x1024x8, .i1⟩
  | 69 => ⟨S12x1024x8, .f32⟩
  | 70 => ⟨S_, .f32⟩
  | 71 => ⟨S1024x8, .f32⟩
  | 72 => ⟨S1024x8, .i32⟩
  | 73 => ⟨S_, .f32⟩
  | 74 => ⟨S_, .i32⟩
  | 75 => ⟨S1024, .f32⟩
  | 76 => ⟨S1024, .i32⟩
  | 77 => ⟨S1024x8x100, .f32⟩
  | 78 => ⟨S1x8x100, .f32⟩
  | 79 => ⟨S1024x8x100, .f32⟩
  | 80 => ⟨S1024x8x100, .f32⟩
  | 81 => ⟨S1024x1, .i32⟩
  | 82 => ⟨S1x8, .i32⟩
  | 83 => ⟨S1024x8, .i32⟩
  | 84 => ⟨S1024x8, .i32⟩
  | 85 => ⟨S1024x8, .i1⟩
  | 86 => ⟨S1024x8, .f32⟩
  | 87 => ⟨S1024x100, .f32⟩
  | _ => ⟨S1024x768, .f32⟩

abbrev hbmTy (i : Nat) : BufTy := match i / 128 with
  | 0 => hbmTy0_0 i
  | 1 => hbmTy0_1 i
  | _ => ⟨S1024x768, .f32⟩

abbrev bufTy : (tb : Table) → Fin (tcTables nBuf tb) → BufTy
  | .hbm, ⟨i, _⟩ => hbmTy i
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_while0c_c_8 : Ref sig .tc := ⟨.hbm, 18, rfl⟩
abbrev main_while0c_v37 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v37 : Ref sig .tc := ⟨.hbm, 23, rfl⟩
abbrev main_while0b_call1_c : Ref sig .tc := ⟨.hbm, 24, rfl⟩
abbrev main_while0b_call1_c_0 : Ref sig .tc := ⟨.hbm, 25, rfl⟩
abbrev main_while0b_call1_c_1 : Ref sig .tc := ⟨.hbm, 26, rfl⟩
abbrev main_while0b_call1_v0 : Ref sig .tc := ⟨.hbm, 27, rfl⟩
abbrev main_while0b_v38 : Ref sig .tc := ⟨.hbm, 28, rfl⟩
abbrev main_while0b_call2_c : Ref sig .tc := ⟨.hbm, 29, rfl⟩
abbrev main_while0b_call2_c_0 : Ref sig .tc := ⟨.hbm, 30, rfl⟩
abbrev main_while0b_call2_c_1 : Ref sig .tc := ⟨.hbm, 31, rfl⟩
abbrev main_while0b_call2_v0 : Ref sig .tc := ⟨.hbm, 32, rfl⟩
abbrev main_while0b_v39 : Ref sig .tc := ⟨.hbm, 33, rfl⟩
abbrev main_while0b_v40 : Ref sig .tc := ⟨.hbm, 34, rfl⟩
abbrev main_while0b_v41 : Ref sig .tc := ⟨.hbm, 35, rfl⟩
abbrev main_while0b_cst_8 : Ref sig .tc := ⟨.hbm, 36, rfl⟩
abbrev main_while0b_v42 : Ref sig .tc := ⟨.hbm, 37, rfl⟩
abbrev main_while0b_cst_9 : Ref sig .tc := ⟨.hbm, 38, rfl⟩
abbrev main_while0b_v43 : Ref sig .tc := ⟨.hbm, 39, rfl⟩
abbrev main_while0b_v44 : Ref sig .tc := ⟨.hbm, 40, rfl⟩
abbrev main_while0b_v45 : Ref sig .tc := ⟨.hbm, 41, rfl⟩
abbrev main_while0b_call3_v0 : Ref sig .tc := ⟨.hbm, 42, rfl⟩
abbrev main_while0b_call3_cst : Ref sig .tc := ⟨.hbm, 43, rfl⟩
abbrev main_while0b_call3_c : Ref sig .tc := ⟨.hbm, 44, rfl⟩
abbrev main_while0b_call3_v1_0 : Ref sig .tc := ⟨.hbm, 45, rfl⟩
abbrev main_while0b_v46 : Ref sig .tc := ⟨.hbm, 46, rfl⟩
abbrev main_while0b_v47 : Ref sig .tc := ⟨.hbm, 47, rfl⟩
abbrev main_while0b_v48 : Ref sig .tc := ⟨.hbm, 48, rfl⟩
abbrev main_while0b_v49 : Ref sig .tc := ⟨.hbm, 49, rfl⟩
abbrev main_while0b_call4_c : Ref sig .tc := ⟨.hbm, 50, rfl⟩
abbrev main_while0b_call4_v0 : Ref sig .tc := ⟨.hbm, 51, rfl⟩
abbrev main_while0b_call4_v1 : Ref sig .tc := ⟨.hbm, 52, rfl⟩
abbrev main_while0b_call4_c_0 : Ref sig .tc := ⟨.hbm, 53, rfl⟩
abbrev main_while0b_call4_v2 : Ref sig .tc := ⟨.hbm, 54, rfl⟩
abbrev main_while0b_call4_v3 : Ref sig .tc := ⟨.hbm, 55, rfl⟩
abbrev main_while0b_call4_v4 : Ref sig .tc := ⟨.hbm, 56, rfl⟩
abbrev main_while0b_call4_c_1 : Ref sig .tc := ⟨.hbm, 57, rfl⟩
abbrev main_while0b_call4_c_2 : Ref sig .tc := ⟨.hbm, 58, rfl⟩
abbrev main_while0b_call4_v5 : Ref sig .tc := ⟨.hbm, 59, rfl⟩
abbrev main_while0b_call4_v6 : Ref sig .tc := ⟨.hbm, 60, rfl⟩
abbrev main_while0b_call4_v7 : Ref sig .tc := ⟨.hbm, 61, rfl⟩
abbrev main_while0b_call4_v8 : Ref sig .tc := ⟨.hbm, 62, rfl⟩
abbrev main_while0b_call4_v9 : Ref sig .tc := ⟨.hbm, 63, rfl⟩
abbrev main_while0b_call4_v10 : Ref sig .tc := ⟨.hbm, 64, rfl⟩
abbrev main_while0b_call4_c_3 : Ref sig .tc := ⟨.hbm, 65, rfl⟩
abbrev main_while0b_call4_v11 : Ref sig .tc := ⟨.hbm, 66, rfl⟩
abbrev main_while0b_call4_v12 : Ref sig .tc := ⟨.hbm, 67, rfl⟩
abbrev main_while0b_call4_v13 : Ref sig .tc := ⟨.hbm, 68, rfl⟩
abbrev main_while0b_call4_cst : Ref sig .tc := ⟨.hbm, 69, rfl⟩
abbrev main_while0b_call4_v14 : Ref sig .tc := ⟨.hbm, 70, rfl⟩
abbrev main_while0b_v50 : Ref sig .tc := ⟨.hbm, 71, rfl⟩
abbrev main_while0b_v51 : Ref sig .tc := ⟨.hbm, 72, rfl⟩
abbrev main_while0b_call5_c : Ref sig .tc := ⟨.hbm, 73, rfl⟩
abbrev main_while0b_call5_v0 : Ref sig .tc := ⟨.hbm, 74, rfl⟩
abbrev main_while0b_call5_v1 : Ref sig .tc := ⟨.hbm, 75, rfl⟩
abbrev main_while0b_call5_c_0 : Ref sig .tc := ⟨.hbm, 76, rfl⟩
abbrev main_while0b_call5_v2 : Ref sig .tc := ⟨.hbm, 77, rfl⟩
abbrev main_while0b_call5_v3 : Ref sig .tc := ⟨.hbm, 78, rfl⟩
abbrev main_while0b_call5_v4 : Ref sig .tc := ⟨.hbm, 79, rfl⟩
abbrev main_while0b_call5_v5 : Ref sig .tc := ⟨.hbm, 80, rfl⟩
abbrev main_while0b_call5_c_1 : Ref sig .tc := ⟨.hbm, 81, rfl⟩
abbrev main_while0b_call5_c_2 : Ref sig .tc := ⟨.hbm, 82, rfl⟩
abbrev main_while0b_call5_v6 : Ref sig .tc := ⟨.hbm, 83, rfl⟩
abbrev main_while0b_call5_v7 : Ref sig .tc := ⟨.hbm, 84, rfl⟩
abbrev main_while0b_call5_v8 : Ref sig .tc := ⟨.hbm, 85, rfl⟩
abbrev main_while0b_call5_v9 : Ref sig .tc := ⟨.hbm, 86, rfl⟩
abbrev main_while0b_call5_v10 : Ref sig .tc := ⟨.hbm, 87, rfl⟩
abbrev main_while0b_call5_v11 : Ref sig .tc := ⟨.hbm, 88, rfl⟩
abbrev main_while0b_call5_c_3 : Ref sig .tc := ⟨.hbm, 89, rfl⟩
abbrev main_while0b_call5_v12 : Ref sig .tc := ⟨.hbm, 90, rfl⟩
abbrev main_while0b_call5_v13 : Ref sig .tc := ⟨.hbm, 91, rfl⟩
abbrev main_while0b_call5_v14 : Ref sig .tc := ⟨.hbm, 92, rfl⟩
abbrev main_while0b_call5_cst : Ref sig .tc := ⟨.hbm, 93, rfl⟩
abbrev main_while0b_call5_v15 : Ref sig .tc := ⟨.hbm, 94, rfl⟩
abbrev main_while0b_v52 : Ref sig .tc := ⟨.hbm, 95, rfl⟩
abbrev main_while0b_v53 : Ref sig .tc := ⟨.hbm, 96, rfl⟩
abbrev main_while0b_v54 : Ref sig .tc := ⟨.hbm, 97, rfl⟩
abbrev main_while0b_v55 : Ref sig .tc := ⟨.hbm, 98, rfl⟩
abbrev main_while0b_v56 : Ref sig .tc := ⟨.hbm, 99, rfl⟩
abbrev main_while0b_cst_10 : Ref sig .tc := ⟨.hbm, 100, rfl⟩
abbrev main_while0b_v57 : Ref sig .tc := ⟨.hbm, 101, rfl⟩
abbrev main_while0b_v58 : Ref sig .tc := ⟨.hbm, 102, rfl⟩
abbrev main_while0b_v59 : Ref sig .tc := ⟨.hbm, 103, rfl⟩
abbrev main_while0b_cst_11 : Ref sig .tc := ⟨.hbm, 104, rfl⟩
abbrev main_while0b_v60 : Ref sig .tc := ⟨.hbm, 105, rfl⟩
abbrev main_while0b_v61 : Ref sig .tc := ⟨.hbm, 106, rfl⟩
abbrev main_while0b_v62 : Ref sig .tc := ⟨.hbm, 107, rfl⟩
abbrev main_while0b_cst_12 : Ref sig .tc := ⟨.hbm, 108, rfl⟩
abbrev main_while0b_v63 : Ref sig .tc := ⟨.hbm, 109, rfl⟩
abbrev main_while0b_v64 : Ref sig .tc := ⟨.hbm, 110, rfl⟩
abbrev main_while0b_cst_13 : Ref sig .tc := ⟨.hbm, 111, rfl⟩
abbrev main_while0b_v65 : Ref sig .tc := ⟨.hbm, 112, rfl⟩
abbrev main_while0b_v66 : Ref sig .tc := ⟨.hbm, 113, rfl⟩
abbrev main_while0b_v67 : Ref sig .tc := ⟨.hbm, 114, rfl⟩
abbrev main_while0b_call6_v0 : Ref sig .tc := ⟨.hbm, 115, rfl⟩
abbrev main_while0b_call6_c : Ref sig .tc := ⟨.hbm, 116, rfl⟩
abbrev main_while0b_v68 : Ref sig .tc := ⟨.hbm, 117, rfl⟩
abbrev main_while0b_c_14 : Ref sig .tc := ⟨.hbm, 118, rfl⟩
abbrev main_while0b_v69 : Ref sig .tc := ⟨.hbm, 119, rfl⟩
abbrev main_v5 : Ref sig .tc := ⟨.hbm, 120, rfl⟩
abbrev main_v6 : Ref sig .tc := ⟨.hbm, 121, rfl⟩
abbrev main_v7 : Ref sig .tc := ⟨.hbm, 122, rfl⟩
abbrev main_v8 : Ref sig .tc := ⟨.hbm, 123, rfl⟩
abbrev main_v9 : Ref sig .tc := ⟨.hbm, 124, rfl⟩
abbrev main_v10 : Ref sig .tc := ⟨.hbm, 125, rfl⟩
abbrev main_v11 : Ref sig .tc := ⟨.hbm, 126, rfl⟩
abbrev main_v12 : Ref sig .tc := ⟨.hbm, 127, rfl⟩
abbrev main_cst : Ref sig .tc := ⟨.hbm, 128, rfl⟩
abbrev main_v13 : Ref sig .tc := ⟨.hbm, 129, rfl⟩
abbrev main_cst_1 : Ref sig .tc := ⟨.hbm, 130, rfl⟩
abbrev main_v14 : Ref sig .tc := ⟨.hbm, 131, rfl⟩
abbrev main_v15 : Ref sig .tc := ⟨.hbm, 132, rfl⟩
abbrev main_v16 : Ref sig .tc := ⟨.hbm, 133, rfl⟩
abbrev main_call7_v0 : Ref sig .tc := ⟨.hbm, 134, rfl⟩
abbrev main_call7_cst : Ref sig .tc := ⟨.hbm, 135, rfl⟩
abbrev main_call7_c : Ref sig .tc := ⟨.hbm, 136, rfl⟩
abbrev main_call7_v1_0 : Ref sig .tc := ⟨.hbm, 137, rfl⟩
abbrev main_v17 : Ref sig .tc := ⟨.hbm, 138, rfl⟩
abbrev main_v18 : Ref sig .tc := ⟨.hbm, 139, rfl⟩
abbrev main_v19 : Ref sig .tc := ⟨.hbm, 140, rfl⟩
abbrev main_v20 : Ref sig .tc := ⟨.hbm, 141, rfl⟩
abbrev main_call8_c : Ref sig .tc := ⟨.hbm, 142, rfl⟩
abbrev main_call8_v0 : Ref sig .tc := ⟨.hbm, 143, rfl⟩
abbrev main_call8_v1 : Ref sig .tc := ⟨.hbm, 144, rfl⟩
abbrev main_call8_c_0 : Ref sig .tc := ⟨.hbm, 145, rfl⟩
abbrev main_call8_v2 : Ref sig .tc := ⟨.hbm, 146, rfl⟩
abbrev main_call8_v3 : Ref sig .tc := ⟨.hbm, 147, rfl⟩
abbrev main_call8_v4 : Ref sig .tc := ⟨.hbm, 148, rfl⟩
abbrev main_call8_c_1 : Ref sig .tc := ⟨.hbm, 149, rfl⟩
abbrev main_call8_c_2 : Ref sig .tc := ⟨.hbm, 150, rfl⟩
abbrev main_call8_v5 : Ref sig .tc := ⟨.hbm, 151, rfl⟩
abbrev main_call8_v6 : Ref sig .tc := ⟨.hbm, 152, rfl⟩
abbrev main_call8_v7 : Ref sig .tc := ⟨.hbm, 153, rfl⟩
abbrev main_call8_v8 : Ref sig .tc := ⟨.hbm, 154, rfl⟩
abbrev main_call8_v9 : Ref sig .tc := ⟨.hbm, 155, rfl⟩
abbrev main_call8_v10 : Ref sig .tc := ⟨.hbm, 156, rfl⟩
abbrev main_call8_c_3 : Ref sig .tc := ⟨.hbm, 157, rfl⟩
abbrev main_call8_v11 : Ref sig .tc := ⟨.hbm, 158, rfl⟩
abbrev main_call8_v12 : Ref sig .tc := ⟨.hbm, 159, rfl⟩
abbrev main_call8_v13 : Ref sig .tc := ⟨.hbm, 160, rfl⟩
abbrev main_call8_cst : Ref sig .tc := ⟨.hbm, 161, rfl⟩
abbrev main_call8_v14 : Ref sig .tc := ⟨.hbm, 162, rfl⟩
abbrev main_v21 : Ref sig .tc := ⟨.hbm, 163, rfl⟩
abbrev main_v22 : Ref sig .tc := ⟨.hbm, 164, rfl⟩
abbrev main_call9_c : Ref sig .tc := ⟨.hbm, 165, rfl⟩
abbrev main_call9_v0 : Ref sig .tc := ⟨.hbm, 166, rfl⟩
abbrev main_call9_v1 : Ref sig .tc := ⟨.hbm, 167, rfl⟩
abbrev main_call9_c_0 : Ref sig .tc := ⟨.hbm, 168, rfl⟩
abbrev main_call9_v2 : Ref sig .tc := ⟨.hbm, 169, rfl⟩
abbrev main_call9_v3 : Ref sig .tc := ⟨.hbm, 170, rfl⟩
abbrev main_call9_v4 : Ref sig .tc := ⟨.hbm, 171, rfl⟩
abbrev main_call9_v5 : Ref sig .tc := ⟨.hbm, 172, rfl⟩
abbrev main_call9_c_1 : Ref sig .tc := ⟨.hbm, 173, rfl⟩
abbrev main_call9_c_2 : Ref sig .tc := ⟨.hbm, 174, rfl⟩
abbrev main_call9_v6 : Ref sig .tc := ⟨.hbm, 175, rfl⟩
abbrev main_call9_v7 : Ref sig .tc := ⟨.hbm, 176, rfl⟩
abbrev main_call9_v8 : Ref sig .tc := ⟨.hbm, 177, rfl⟩
abbrev main_call9_v9 : Ref sig .tc := ⟨.hbm, 178, rfl⟩
abbrev main_call9_v10 : Ref sig .tc := ⟨.hbm, 179, rfl⟩
abbrev main_call9_v11 : Ref sig .tc := ⟨.hbm, 180, rfl⟩
abbrev main_call9_c_3 : Ref sig .tc := ⟨.hbm, 181, rfl⟩
abbrev main_call9_v12 : Ref sig .tc := ⟨.hbm, 182, rfl⟩
abbrev main_call9_v13 : Ref sig .tc := ⟨.hbm, 183, rfl⟩
abbrev main_call9_v14 : Ref sig .tc := ⟨.hbm, 184, rfl⟩
abbrev main_call9_cst : Ref sig .tc := ⟨.hbm, 185, rfl⟩
abbrev main_call9_v15 : Ref sig .tc := ⟨.hbm, 186, rfl⟩
abbrev main_v23 : Ref sig .tc := ⟨.hbm, 187, rfl⟩
abbrev main_v24 : Ref sig .tc := ⟨.hbm, 188, rfl⟩
abbrev main_v25 : Ref sig .tc := ⟨.hbm, 189, rfl⟩
abbrev main_v26 : Ref sig .tc := ⟨.hbm, 190, rfl⟩
abbrev main_v27 : Ref sig .tc := ⟨.hbm, 191, rfl⟩
abbrev main_call10_v0 : Ref sig .tc := ⟨.hbm, 192, rfl⟩
abbrev main_call10_v1 : Ref sig .tc := ⟨.hbm, 193, rfl⟩
abbrev main_call10_v2 : Ref sig .tc := ⟨.hbm, 194, rfl⟩
abbrev main_call10_v3 : Ref sig .tc := ⟨.hbm, 195, rfl⟩
abbrev main_call10_v4 : Ref sig .tc := ⟨.hbm, 196, rfl⟩
abbrev main_v28 : Ref sig .tc := ⟨.hbm, 197, rfl⟩
abbrev main_cst_2 : Ref sig .tc := ⟨.hbm, 198, rfl⟩
abbrev main_v29 : Ref sig .tc := ⟨.hbm, 199, rfl⟩
abbrev main_call11_v0 : Ref sig .tc := ⟨.hbm, 200, rfl⟩
abbrev main_call11_cst : Ref sig .tc := ⟨.hbm, 201, rfl⟩
abbrev main_call11_c : Ref sig .tc := ⟨.hbm, 202, rfl⟩
abbrev main_call11_v1_0 : Ref sig .tc := ⟨.hbm, 203, rfl⟩
abbrev main_v30 : Ref sig .tc := ⟨.hbm, 204, rfl⟩
abbrev main_v31 : Ref sig .tc := ⟨.hbm, 205, rfl⟩
abbrev main_v32 : Ref sig .tc := ⟨.hbm, 206, rfl⟩
abbrev main_v33 : Ref sig .tc := ⟨.hbm, 207, rfl⟩
abbrev main_v34 : Ref sig .tc := ⟨.hbm, 208, rfl⟩
abbrev main_call12_v0 : Ref sig .tc := ⟨.hbm, 209, rfl⟩
abbrev main_call12_v1 : Ref sig .tc := ⟨.hbm, 210, rfl⟩
abbrev main_call12_v2 : Ref sig .tc := ⟨.hbm, 211, rfl⟩
abbrev main_call12_v3 : Ref sig .tc := ⟨.hbm, 212, rfl⟩
abbrev main_call12_v4 : Ref sig .tc := ⟨.hbm, 213, rfl⟩
abbrev main_v35 : Ref sig .tc := ⟨.hbm, 214, rfl⟩
abbrev main_v36 : Ref sig .tc := ⟨.hbm, 215, rfl⟩

abbrev nD : Nat := 1
abbrev τ : Topo := Topo.v7x

variable {F : FTy → Type} [FloatOps F]

abbrev main_while0_count : Scf.Loop 32 := ⟨0#32, 11#32, 1#32⟩
-- ==== Proof.Cases.lean ====
/- What one grid point of the kernel leaves in its four carried scratch buffers and in its output, as closed terms over
   the generated payloads: one theorem per case of the kernel's conditionals and buffer stored. Hand-written. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Hand

open Idealize.ShloMosaic Idealize.SL.Sem
open Cert.KernelIdeal Cert.KernelIdeal.Gen

variable {F : FTy → Type} [FloatOps F]

/-- The zero offset of a rank-2 load or store. -/
theorem hz2 : (![0, 0] : Fin 2 → Nat) = fun _ => 0 := funext fun a => by fin_cases a <;> rfl

/-- The zero offset of a rank-3 load or store. -/
theorem hz3 : (![0, 0, 0] : Fin 3 → Nat) = fun _ => 0 := funext fun a => by fin_cases a <;> rfl

/-- The row numbers of an 8 by 8 block. -/
abbrev rows8 : IVec S8x8 32 := iota .tc S8x8 32 [0] iota_S8x8_d0_w32

/-- The features of a layer before its activation, from the carried state and the layer's weights. -/
abbrev feat (x : Vec F S1024x768 .f32) (pr : Vec F S1024x128 .f32) (lg : Vec F S1024x8 .f32) (W : Vec F S1x768x768 .f32)
    (U : Vec F S1x128x768 .f32) : FVec F S1024x768 .f32 := k0_pay3 k0_pay15 x pr (k0_pay21 lg) rows8 W U

/-- The next layer's input. -/
abbrev nextX (x : Vec F S1024x768 .f32) (pr : Vec F S1024x128 .f32) (lg : Vec F S1024x8 .f32) (W : Vec F S1x768x768 .f32)
    (U : Vec F S1x128x768 .f32) : FVec F S1024x768 .f32 := k0_pay5 k0_pay15 x pr (k0_pay21 lg) rows8 W U

/-- The next layer's projections. -/
abbrev nextP (x : Vec F S1024x768 .f32) (pr : Vec F S1024x128 .f32) (lg : Vec F S1024x8 .f32) (W : Vec F S1x768x768 .f32)
    (U vn : Vec F S1x128x768 .f32) : FVec F S1024x128 .f32 := k0_pay7 k0_pay15 x pr (k0_pay21 lg) rows8 W U vn

/-- The next layer's routing scores. -/
abbrev nextL (x : Vec F S1024x768 .f32) (pr : Vec F S1024x128 .f32) (lg : Vec F S1024x8 .f32) (W : Vec F S1x768x768 .f32)
    (U vn : Vec F S1x128x768 .f32) : FVec F S1024x8 .f32 := k0_pay8 k0_pay15 x pr (k0_pay21 lg) rows8 W U vn

/-- The vote counts after a layer. -/
abbrev nextC (lg : Vec F S1024x8 .f32) (cnt : Vec F S1024x8 .f32) : FVec F S1024x8 .f32 := k0_pay2 (k0_pay21 lg) rows8 cnt

/-- One head's weights, loaded from the stack of heads. -/
abbrev hd (hw : Vec F S8x100x768 .f32) (k : Nat) (inb : ∀ a, (![k, 0, 0] : Fin 3 → Nat) a + S1x100x768.size a ≤ S8x100x768.size a) :
    Vec F S1x100x768 .f32 := View.ld hw (Rect.unit (s := S8x100x768) ![k, 0, 0] S1x100x768.size inb)

/-- The result block: the head chosen by the counts, applied to the last layer's features. -/
abbrev headOut (cnt : Vec F S1024x8 .f32) (x : Vec F S1024x768 .f32) (pr : Vec F S1024x128 .f32) (lg : Vec F S1024x8 .f32)
    (W : Vec F S1x768x768 .f32) (U : Vec F S1x128x768 .f32) (hw : Vec F S8x100x768 .f32) (hb : Vec F S8x100 .f32) :
    FVec F S1024x100 .f32 :=
  k0_pay9 k0_pay15 x pr (k0_pay21 lg) rows8 W U (k0_pay10 cnt) hb
    (k0_pay12 (feat x pr lg W U) (k0_pay10 cnt) hb
      (k0_pay11 (feat x pr lg W U) cnt hb (hd hw 0 inb_S8x100x768_S1x100x768_0_0_0) (hd hw 1 inb_S8x100x768_S1x100x768_1_0_0))
      (hd hw 2 inb_S8x100x768_S1x100x768_2_0_0) (hd hw 3 inb_S8x100x768_S1x100x768_3_0_0)
      (hd hw 4 inb_S8x100x768_S1x100x768_4_0_0) (hd hw 5 inb_S8x100x768_S1x100x768_5_0_0))
    (k0_pay13 (feat x pr lg W U) (hd hw 6 inb_S8x100x768_S1x100x768_6_0_0)) (k0_pay14 (k0_pay10 cnt))
    (hd hw 7 inb_S8x100x768_S1x100x768_7_0_0)

variable (c : Dev nD) (i : grid0.Coords) (a1 : Memref sig .tc .vmem S1024x768 .f32) (h1 : a1.IsWhole) (a2 : Memref sig .tc .vmem S1x768x768 .f32) (h2 : a2.IsWhole) (a3 : Memref sig .tc .vmem S1x128x768 .f32) (h3 : a3.IsWhole) (a4 : Memref sig .tc .vmem S1x128x768 .f32) (h4 : a4.IsWhole) (a5 : Memref sig .tc .vmem S1x128x768 .f32) (h5 : a5.IsWhole) (a6 : Memref sig .tc .vmem S8x100x768 .f32) (h6 : a6.IsWhole) (a7 : Memref sig .tc .vmem S8x100 .f32) (h7 : a7.IsWhole) (a8 : Memref sig .tc .vmem S1024x100 .f32) (h8 : a8.IsWhole) (a9 : Memref sig .tc .vmem S1024x768 .f32) (h9 : a9.IsWhole) (a10 : Memref sig .tc .vmem S1024x8 .f32) (h10 : a10.IsWhole) (a11 : Memref sig .tc .vmem S1024x128 .f32) (h11 : a11.IsWhole) (a12 : Memref sig .tc .vmem S1024x8 .f32) (h12 : a12.IsWhole)
  (x0 : Vec F S1024x768 .f32) (x1 : Vec F S1x768x768 .f32) (x2 : Vec F S1x128x768 .f32) (x3 : Vec F S1x128x768 .f32)
  (x4 : Vec F S1x128x768 .f32) (x5 : Vec F S8x100x768 .f32) (x6 : Vec F S8x100 .f32) (xs0 : Vec F S1024x768 .f32)
  (xs1 : Vec F S1024x8 .f32) (xs2 : Vec F S1024x128 .f32) (xs3 : Vec F S1024x8 .f32)

/-- A middle point leaves the next layer's input, the counts with this layer's vote added, and the next layer's
    projections and scores. -/
theorem scratch_B (hc0 : ¬cond0_0 i) (hc1 : cond0_1 i) (hc2 : ¬cond0_2 i) :
    (sout0_B_0 c i a1 h1 a2 h2 a3 h3 a4 h4 a5 h5 a6 h6 a7 h7 a8 h8 a9 h9 a10 h10 a11 h11 a12 h12 hc0 hc1 hc2 x0 x1 x2 x3 x4 x5 x6 xs0 xs1 xs2 xs3,
      sout0_B_1 c i a1 h1 a2 h2 a3 h3 a4 h4 a5 h5 a6 h6 a7 h7 a8 h8 a9 h9 a10 h10 a11 h11 a12 h12 hc0 hc1 hc2 x0 x1 x2 x3 x4 x5 x6 xs0 xs1 xs2 xs3,
      sout0_B_2 c i a1 h1 a2 h2 a3 h3 a4 h4 a5 h5 a6 h6 a7 h7 a8 h8 a9 h9 a10 h10 a11 h11 a12 h12 hc0 hc1 hc2 x0 x1 x2 x3 x4 x5 x6 xs0 xs1 xs2 xs3,
      sout0_B_3 c i a1 h1 a2 h2 a3 h3 a4 h4 a5 h5 a6 h6 a7 h7 a8 h8 a9 h9 a10 h10 a11 h11 a12 h12 hc0 hc1 hc2 x0 x1 x2 x3 x4 x5 x6 xs0 xs1 xs2 xs3)
      = (nextX xs0 xs2 xs3 x1 x4, nextC xs3 xs1, nextP xs0 xs2 xs3 x1 x4 x3, nextL xs0 xs2 xs3 x1 x4 x3) := by
  refine congrArg₂ Prod.mk ((View.read_writes_eq_canon _ _ _ (scover0_B_0 c i a1 h1 a2 h2 a3 h3 a4 h4 a5 h5 a6 h6 a7 h7 a8 h8 a9 h9 a10 h10 a11 h11 a12 h12 hc0 hc1 hc2 x0 x1 x2 x3 x4 x5 x6 xs0 xs1 xs2 xs3)).trans ?_)
    (congrArg₂ Prod.mk ((View.read_writes_eq_canon _ _ _ (scover0_B_1 c i a1 h1 a2 h2 a3 h3 a4 h4 a5 h5 a6 h6 a7 h7 a8 h8 a9 h9 a10 h10 a11 h11 a12 h12 hc0 hc1 hc2 x0 x1 x2 x3 x4 x5 x6 xs0 xs1 xs2 xs3)).trans ?_)
      (congrArg₂ Prod.mk ((View.read_writes_eq_canon _ _ _ (scover0_B_2 c i a1 h1 a2 h2 a3 h3 a4 h4 a5 h5 a6 h6 a7 h7 a8 h8 a9 h9 a10 h10 a11 h11 a12 h12 hc0 hc1 hc2 x0 x1 x2 x3 x4 x5 x6 xs0 xs1 xs2 xs3)).trans ?_)
        ((View.read_writes_eq_canon _ _ _ (scover0_B_3 c i a1 h1 a2 h2 a3 h3 a4 h4 a5 h5 a6 h6 a7 h7 a8 h8 a9 h9 a10 h10 a11 h11 a12 h12 hc0 hc1 hc2 x0 x1 x2 x3 x4 x5 x6 xs0 xs1 xs2 xs3)).trans ?_)))
  all_goals
    unfold kernelRun0_B
    dsimp only
    sl_unfold_words
    first
    | rw [View.canon_unit_zero (S := S1024x768) hz2]
    | rw [View.canon_unit_zero (S := S1024x8) hz2]
    | rw [View.canon_unit_zero (S := S1024x128) hz2]
    simp only [View.readAt_eq_ld, h1.read_unread, h2.read_unread, h3.read_unread, h4.read_unread, h5.read_unread,
      h6.read_unread, h7.read_unread, h9.read_unread, h10.read_unread, h11.read_unread, h12.read_unread,
      View.ld_unit_zero (S := S1024x768) hz2, View.ld_unit_zero (S := S1024x8) hz2, View.ld_unit_zero (S := S1024x128) hz2,
      View.ld_unit_zero (S := S8x100) hz2, View.ld_unit_zero (S := S1x768x768) hz3, View.ld_unit_zero (S := S1x128x768) hz3]

/-- The first point leaves the same, over the batch as the layer's input, no votes, and the first layer's projections and
    scores, which it computes itself. -/
theorem scratch_A (hc0 : cond0_0 i) (hc1 : cond0_1 i) (hc2 : ¬cond0_2 i) :
    (sout0_A_0 c i a1 h1 a2 h2 a3 h3 a4 h4 a5 h5 a6 h6 a7 h7 a8 h8 a9 h9 a10 h10 a11 h11 a12 h12 hc0 hc1 hc2 x0 x1 x2 x3 x4 x5 x6,
      sout0_A_1 c i a1 h1 a2 h2 a3 h3 a4 h4 a5 h5 a6 h6 a7 h7 a8 h8 a9 h9 a10 h10 a11 h11 a12 h12 hc0 hc1 hc2 x0 x1 x2 x3 x4 x5 x6,
      sout0_A_2 c i a1 h1 a2 h2 a3 h3 a4 h4 a5 h5 a6 h6 a7 h7 a8 h8 a9 h9 a10 h10 a11 h11 a12 h12 hc0 hc1 hc2 x0 x1 x2 x3 x4 x5 x6,
      sout0_A_3 c i a1 h1 a2 h2 a3 h3 a4 h4 a5 h5 a6 h6 a7 h7 a8 h8 a9 h9 a10 h10 a11 h11 a12 h12 hc0 hc1 hc2 x0 x1 x2 x3 x4 x5 x6)
      = (nextX (k0_pay16 x0) (k0_pay19 x0 x2) (k0_pay20 x0 x2) x1 x4, nextC (k0_pay20 x0 x2) k0_pay17,
          nextP (k0_pay16 x0) (k0_pay19 x0 x2) (k0_pay20 x0 x2) x1 x4 x3,
          nextL (k0_pay16 x0) (k0_pay19 x0 x2) (k0_pay20 x0 x2) x1 x4 x3) := by
  refine congrArg₂ Prod.mk ((View.read_writes_eq_canon _ _ _ (scover0_A_0 c i a1 h1 a2 h2 a3 h3 a4 h4 a5 h5 a6 h6 a7 h7 a8 h8 a9 h9 a10 h10 a11 h11 a12 h12 hc0 hc1 hc2 x0 x1 x2 x3 x4 x5 x6)).trans ?_)
    (congrArg₂ Prod.mk ((View.read_writes_eq_canon _ _ _ (scover0_A_1 c i a1 h1 a2 h2 a3 h3 a4 h4 a5 h5 a6 h6 a7 h7 a8 h8 a9 h9 a10 h10 a11 h11 a12 h12 hc0 hc1 hc2 x0 x1 x2 x3 x4 x5 x6)).trans ?_)
      (congrArg₂ Prod.mk ((View.read_writes_eq_canon _ _ _ (scover0_A_2 c i a1 h1 a2 h2 a3 h3 a4 h4 a5 h5 a6 h6 a7 h7 a8 h8 a9 h9 a10 h10 a11 h11 a12 h12 hc0 hc1 hc2 x0 x1 x2 x3 x4 x5 x6)).trans ?_)
        ((View.read_writes_eq_canon _ _ _ (scover0_A_3 c i a1 h1 a2 h2 a3 h3 a4 h4 a5 h5 a6 h6 a7 h7 a8 h8 a9 h9 a10 h10 a11 h11 a12 h12 hc0 hc1 hc2 x0 x1 x2 x3 x4 x5 x6)).trans ?_)))
  all_goals
    unfold kernelRun0_A
    dsimp only
    sl_unfold_words
    first
    | rw [View.canon_cons_unit_zero (S := S1024x768) hz2]
    | rw [View.canon_cons_unit_zero (S := S1024x8) hz2]
    | rw [View.canon_cons_unit_zero (S := S1024x128) hz2]
    try simp only [View.readCov_unit_zero (S := S1024x768) _ hz2, View.readCov_unit_zero (S := S1024x8) _ hz2,
      View.readCov_unit_zero (S := S1024x128) _ hz2]
    simp only [View.readAt_eq_ld, h1.read_unread, h2.read_unread, h3.read_unread, h4.read_unread, h5.read_unread,
      h6.read_unread, h7.read_unread, h9.read_unread, h10.read_unread, h11.read_unread, h12.read_unread,
      View.ld_unit_zero (S := S1024x768) hz2, View.ld_unit_zero (S := S1024x8) hz2, View.ld_unit_zero (S := S1024x128) hz2,
      View.ld_unit_zero (S := S8x100) hz2, View.ld_unit_zero (S := S1x768x768) hz3, View.ld_unit_zero (S := S1x128x768) hz3]

/-- The last point leaves the counts with the last vote added, and in its output the head that they choose. -/
theorem scratch_C (hc0 : ¬cond0_0 i) (hc1 : ¬cond0_1 i) (hc2 : cond0_2 i) :
    out0_C_7 c i a1 h1 a2 h2 a3 h3 a4 h4 a5 h5 a6 h6 a7 h7 a8 h8 a9 h9 a10 h10 a11 h11 a12 h12 hc0 hc1 hc2 x0 x1 x2 x3 x4 x5 x6 xs0 xs1 xs2 xs3
      = headOut (nextC xs3 xs1) xs0 xs2 xs3 x1 x4 x5 x6 := by
  unfold out0_C_7
  rw [View.read_writes_eq_canon _ _ _ (cover0_C_7 c i a1 h1 a2 h2 a3 h3 a4 h4 a5 h5 a6 h6 a7 h7 a8 h8 a9 h9 a10 h10 a11 h11 a12 h12 hc0 hc1 hc2 x0 x1 x2 x3 x4 x5 x6 xs0 xs1 xs2 xs3)]
  unfold kernelRun0_C
  dsimp only
  sl_unfold_words
  rw [View.canon_unit_zero (S := S1024x100) hz2]
  simp only [View.readCov_unit_zero (S := S1024x8) _ hz2]
  simp only [View.readAt_eq_ld, h1.read_unread, h2.read_unread, h3.read_unread, h4.read_unread, h5.read_unread,
    h6.read_unread, h7.read_unread, h9.read_unread, h10.read_unread, h11.read_unread, h12.read_unread,
    View.ld_unit_zero (S := S1024x768) hz2, View.ld_unit_zero (S := S1024x8) hz2, View.ld_unit_zero (S := S1024x128) hz2,
    View.ld_unit_zero (S := S8x100) hz2, View.ld_unit_zero (S := S1x768x768) hz3, View.ld_unit_zero (S := S1x128x768) hz3]

end Cert.KernelIdeal.Hand
end
-- ==== Proof.Spec.lean ====
/- What the network computes, one row of the batch at a time, over the extended reals: the projections, the routing
   score, the chosen expert, a layer's features, the activation, the votes and the result. Also the facts about the first
   greatest of eight numbers that both programs' ways of choosing rest on. Hand-written. -/
module

public import Idealize.ShloMosaic.PureOps.Ideal.Laws

@[expose] public section

noncomputable section

namespace Cert.Spec

open Idealize.ShloMosaic

/-! ## The first greatest of eight -/

/-- Place `t` holds a greatest value of `f`, and every earlier place holds less. -/
def IsPick (f : Fin 8 → EReal) (t : Fin 8) : Prop := (∀ u, f u ≤ f t) ∧ ∀ u, u < t → f u < f t

/-- There is such a place. -/
theorem exists_isPick (f : Fin 8 → EReal) : ∃ t, IsPick f t := by
  obtain ⟨m, -, hm⟩ := Finset.exists_max_image Finset.univ f ⟨0, Finset.mem_univ _⟩
  have hne : (Finset.univ.filter fun t => f t = f m).Nonempty := ⟨m, by simp⟩
  refine ⟨(Finset.univ.filter fun t => f t = f m).min' hne, ?_, ?_⟩
  · intro u
    have h := Finset.min'_mem _ hne
    rw [Finset.mem_filter] at h
    rw [h.2]; exact hm u (Finset.mem_univ _)
  · intro u hu
    have h := Finset.min'_mem _ hne
    rw [Finset.mem_filter] at h
    rw [h.2]
    refine lt_of_le_of_ne (hm u (Finset.mem_univ _)) fun e => ?_
    exact absurd (Finset.min'_le _ u (by simp [e])) (not_le.mpr hu)

/-- There is only one. -/
theorem IsPick.unique {f : Fin 8 → EReal} {t u : Fin 8} (ht : IsPick f t) (hu : IsPick f u) : t = u := by
  rcases lt_trichotomy t u with h | h | h
  · exact absurd (hu.2 t h) (not_lt.mpr (ht.1 u))
  · exact h
  · exact absurd (ht.2 u h) (not_lt.mpr (hu.1 t))

/-- The first place of a greatest value. -/
def pick (f : Fin 8 → EReal) : Fin 8 := (exists_isPick f).choose

theorem pick_spec (f : Fin 8 → EReal) : IsPick f (pick f) := (exists_isPick f).choose_spec

theorem pick_eq {f : Fin 8 → EReal} {t : Fin 8} (h : IsPick f t) : pick f = t := (pick_spec f).unique h

/-- A function that is strictly increasing on the values of `f` does not move the place. -/
theorem pick_comp (g : EReal → EReal) (f : Fin 8 → EReal) (hg : ∀ u v, f u < f v → g (f u) < g (f v)) :
    pick (fun u => g (f u)) = pick f := by
  obtain ⟨h1, h2⟩ := pick_spec f
  refine pick_eq ⟨fun u => ?_, fun u hu => hg _ _ (h2 u hu)⟩
  rcases (h1 u).lt_or_eq with h | h
  · exact (hg _ _ h).le
  · exact (congrArg g h).le

/-- The greatest value is the fold of `max`. -/
theorem fold_max_eq (f : Fin 8 → EReal) : Finset.fold max ⊥ f Finset.univ = f (pick f) := by
  apply le_antisymm
  · exact (Finset.fold_max_le _).mpr ⟨bot_le, fun u _ => (pick_spec f).1 u⟩
  · exact (Finset.le_fold_max _).mpr (Or.inr ⟨pick f, Finset.mem_univ _, le_rfl⟩)

/-- The mask "holds the greatest value, and is the first of the places up to here that do", as a product of two 0/1
    factors of which the second compares a running count with one, marks exactly the first place. -/
theorem mask_eq (f : Fin 8 → EReal) (t : Fin 8) :
    (if f t = Finset.fold max ⊥ f Finset.univ then (1 : EReal) else 0)
      * (if (∑ x, (if f x = Finset.fold max ⊥ f Finset.univ then (1 : EReal) else 0) * (if x ≤ t then 1 else 0)) = 1
          then 1 else 0)
      = if pick f = t then 1 else 0 := by
  rw [fold_max_eq]
  obtain ⟨h1, h2⟩ := pick_spec f
  by_cases hp : pick f = t
  · subst hp
    have hs : (∑ x, (if f x = f (pick f) then (1 : EReal) else 0) * (if x ≤ pick f then 1 else 0)) = 1 := by
      rw [Finset.sum_eq_single (pick f)]
      · simp
      · intro x _ hx
        rcases lt_or_gt_of_ne hx with h | h
        · simp [(h2 x h).ne]
        · simp [not_le.mpr h]
      · simp
    rw [hs]; simp
  · rw [if_neg hp]
    by_cases ht : f t = f (pick f)
    · have hlt : pick f < t := by
        rcases lt_or_gt_of_ne hp with h | h
        · exact h
        · exact absurd ht (h2 t h).ne
      have hs : (1 : EReal) < ∑ x, (if f x = f (pick f) then (1 : EReal) else 0) * (if x ≤ t then 1 else 0) := by
        have h3 : ∑ x ∈ {pick f, t}, (if f x = f (pick f) then (1 : EReal) else 0) * (if x ≤ t then 1 else 0)
            ≤ ∑ x, (if f x = f (pick f) then (1 : EReal) else 0) * (if x ≤ t then 1 else 0) :=
          Finset.sum_le_sum_of_subset_of_nonneg (Finset.subset_univ _) fun x _ _ => by
            split <;> split <;> simp
        refine lt_of_lt_of_le ?_ h3
        rw [Finset.sum_pair hp, if_pos rfl, if_pos ht, if_pos hlt.le, if_pos le_rfl]
        simp only [one_mul]
        exact_mod_cast (by norm_num : (1 : ℝ) < 1 + 1)
      rw [if_neg hs.ne', mul_zero]
    · rw [if_neg ht, zero_mul]

/-! ## The network, one row at a time -/

/-- The row's projection onto direction `r` of expert `t`. -/
def proj (x : Fin 768 → EReal) (v : Fin 8 → Fin 16 → Fin 768 → EReal) (t : Fin 8) (r : Fin 16) : EReal := ∑ d, x d * v t r d

/-- The routing score of expert `t`: its projection's squared length. -/
def score (x : Fin 768 → EReal) (v : Fin 8 → Fin 16 → Fin 768 → EReal) (t : Fin 8) : EReal := ∑ r, proj x v t r * proj x v t r

/-- The expert a layer chooses for the row. -/
def sel (x : Fin 768 → EReal) (v : Fin 8 → Fin 16 → Fin 768 → EReal) : Fin 8 := pick (score x v)

/-- A layer's features before its activation: the base product and the chosen expert's low-rank correction. -/
def feat (x : Fin 768 → EReal) (w : Fin 768 → Fin 768 → EReal) (v : Fin 8 → Fin 16 → Fin 768 → EReal)
    (u : Fin 8 → Fin 768 → Fin 16 → EReal) (d : Fin 768) : EReal :=
  (∑ k, x k * w d k) + ∑ r, proj x v (sel x v) r * u (sel x v) d r

/-- The activation (the tanh form of GELU), its constants as their f32 patterns. -/
def gelu (y : EReal) : EReal :=
  y * (Ideal.ofBits FTy.f32 1056964608#32 * (1 + Ideal.tanh (Ideal.ofBits FTy.f32 1061962282#32
    * (y + Ideal.ofBits FTy.f32 1027024659#32 * (y * (y * y))))))

/-- Layer `l` of the twelve (the last one for any greater number). -/
def lay (l : ℕ) : Fin 12 := ⟨min l 11, by omega⟩

section Net

variable (x0 : Fin 768 → EReal) (W : Fin 12 → Fin 768 → Fin 768 → EReal) (V : Fin 12 → Fin 8 → Fin 16 → Fin 768 → EReal)
  (U : Fin 12 → Fin 8 → Fin 768 → Fin 16 → EReal)

/-- The row that layer `l` takes. -/
def row : ℕ → Fin 768 → EReal
  | 0 => x0
  | l + 1 => fun d => gelu (feat (row l) (W (lay l)) (V (lay l)) (U (lay l)) d)

/-- The expert that layer `l` chooses. -/
def vote (l : ℕ) : Fin 8 := sel (row x0 W V U l) (V (lay l))

/-- How many of the first `n` layers chose expert `t`. -/
def votes (n : ℕ) (t : Fin 8) : EReal := ∑ j ∈ Finset.range n, if vote x0 W V U j = t then 1 else 0

/-- The expert that most layers chose, the first of them on a tie. -/
def major : Fin 8 := pick (votes x0 W V U 12)

/-- The result: the chosen head applied to the last layer's features. -/
def out (hw : Fin 8 → Fin 100 → Fin 768 → EReal) (hb : Fin 8 → Fin 100 → EReal) (c : Fin 100) : EReal :=
  (∑ d, feat (row x0 W V U 11) (W (lay 11)) (V (lay 11)) (U (lay 11)) d * hw (major x0 W V U) c d) + hb (major x0 W V U) c

end Net

/-! ## Sums over one axis of 128 places as eight groups of sixteen -/

/-- Place `r` of group `t`. -/
def slot (t : Fin 8) (r : Fin 16) : Fin 128 := ⟨t.val * 16 + r.val, by omega⟩

theorem sum_slots (g : Fin 128 → EReal) : ∑ q, g q = ∑ t, ∑ r, g (slot t r) := by
  rw [← Fintype.sum_prod_type', ← (finProdFinEquiv (m := 8) (n := 16)).sum_comp]
  refine Finset.sum_congr rfl fun p _ => congrArg g (Fin.ext ?_)
  show p.2.val + 16 * p.1.val = p.1.val * 16 + p.2.val
  omega

/-- A sum over the places whose terms vanish outside group `p` is the sum over that group. -/
theorem sum_group (g : Fin 128 → EReal) (p : Fin 8) (h : ∀ t r, t ≠ p → g (slot t r) = 0) : ∑ q, g q = ∑ r, g (slot p r) := by
  rw [sum_slots, Finset.sum_eq_single p]
  · exact fun t _ ht => Finset.sum_eq_zero fun r _ => h t r ht
  · simp

end Cert.Spec

end
-- ==== Proof.KernelMath.lean ====
/- The generated payloads of the kernel read at one position, over the extended reals, in the words of the row-wise
   specification. Hand-written. -/
module

public import proofs.«01_k».proof.Proof.Cases
public import proofs.«01_k».proof.Proof.Spec
public import Idealize.ShloMosaic.Lib.Pointwise

@[expose] public section

set_option maxRecDepth 16384

noncomputable section

namespace Cert.KernelIdeal.Hand

open Idealize.ShloMosaic Idealize.SL.Sem
open Cert.KernelIdeal Cert.KernelIdeal.Gen

/-- A one-bit word widened to 32 bits and converted is 0 or 1. -/
theorem sitofp_ofBool (p : Bool) :
    FloatOps.sitofp (F := Ideal) FTy.f32 (BitVec.setWidth 32 (BitVec.ofBool p)) = if p then (1 : EReal) else 0 := by
  cases p
  · show (((BitVec.setWidth 32 (BitVec.ofBool false)).toInt : ℝ) : EReal) = _
    rw [show (BitVec.setWidth 32 (BitVec.ofBool false)).toInt = 0 by decide]; simp
  · show (((BitVec.setWidth 32 (BitVec.ofBool true)).toInt : ℝ) : EReal) = _
    rw [show (BitVec.setWidth 32 (BitVec.ofBool true)).toInt = 1 by decide]; simp

/-- The pattern of minus infinity. -/
theorem ofBits_bot : Ideal.ofBits FTy.f32 4286578688#32 = (⊥ : EReal) := by
  simp [Ideal.ofBits, Ideal.ieee]

/-- The order of two small places as words. -/
theorem le_words (x t : Fin 8) : IntOp.cmpi .sle (BitVec.ofNat 32 x.val) (BitVec.ofNat 32 t.val) = BitVec.ofBool (decide (x ≤ t)) := by
  revert x t; decide +kernel

/-- The grouping matrix: column `t` marks the sixteen places of group `t`. -/
theorem group_apply (p t : Fin 8) (r : Fin 16) : k0_pay15 (F := Ideal) (ix2 (Spec.slot p r) t) = if p = t then (1 : EReal) else 0 := by
  pointwise [k0_pay15]
  refine (congrArg (fun w => FloatOps.sitofp (F := Ideal) FTy.f32 (BitVec.setWidth 32 w))
    (?_ : _ = BitVec.ofBool (decide (p = t)))).trans ?_
  · revert p t r; decide +kernel
  · simp only [sitofp_ofBool, decide_eq_true_eq]

/-- The one-hot row of the chosen expert, from the row of scores. -/
theorem onehot_apply (lg : Vec Ideal S1024x8 .f32) (b : Fin 1024) (t : Fin 8) :
    k0_pay1 (k0_pay21 lg) rows8 (ix2 b t) = if Spec.pick (fun u => lg (ix2 b u)) = t then (1 : EReal) else 0 := by
  rw [← Spec.mask_eq]
  pointwise [k0_pay1, k0_pay21]
  simp only [sitofp_ofBool, ofBits_bot, le_words, decide_eq_true_eq]

/-- The same for the most voted expert, from the row of counts. -/
theorem onehot10_apply (lg : Vec Ideal S1024x8 .f32) (b : Fin 1024) (t : Fin 8) :
    k0_pay10 lg (ix2 b t) = if Spec.pick (fun u => lg (ix2 b u)) = t then (1 : EReal) else 0 := by
  rw [← Spec.mask_eq]
  pointwise [k0_pay10]
  simp only [sitofp_ofBool, ofBits_bot, le_words, decide_eq_true_eq]

/-- A head loaded from the stack, at one class and column. -/
theorem hd_apply (hw : Vec Ideal S8x100x768 .f32) (k : Nat) (hk : k < 8)
    (inb : ∀ a, (![k, 0, 0] : Fin 3 → Nat) a + S1x100x768.size a ≤ S8x100x768.size a) (c : Fin 100) (d : Fin 768) :
    hd hw k inb (ix3 0 c d) = hw (ix3 ⟨k, hk⟩ c d) := by
  show hw _ = hw _
  refine congrArg hw (funext fun a => Fin.ext ?_)
  fin_cases a
  · show k + 1 * 0 = k; omega
  · show 0 + 1 * c.val = c.val; omega
  · show 0 + 1 * d.val = d.val; omega

section Layer

variable {x : Vec Ideal S1024x768 .f32} {pr : Vec Ideal S1024x128 .f32} {lg : Vec Ideal S1024x8 .f32}
  {W : Vec Ideal S1x768x768 .f32} {U : Vec Ideal S1x128x768 .f32} {b : Fin 1024}
  {xr : Fin 768 → EReal} {w : Fin 768 → Fin 768 → EReal} {v : Fin 8 → Fin 16 → Fin 768 → EReal} {u : Fin 8 → Fin 768 → Fin 16 → EReal}
  (hx : ∀ k, x (ix2 b k) = xr k) (hp : ∀ t r, pr (ix2 b (Spec.slot t r)) = Spec.proj xr v t r)
  (hl : ∀ t, lg (ix2 b t) = Spec.score xr v t) (hW : ∀ d k, W (ix3 0 d k) = w d k)
  (hU : ∀ t r d, U (ix3 0 (Spec.slot t r) d) = u t d r)

include hl in
/-- The one-hot row of the scores marks the layer's chosen expert. -/
theorem onehot_sel (t : Fin 8) :
    k0_pay1 (k0_pay21 lg) rows8 (ix2 b t) = if Spec.sel xr v = t then (1 : EReal) else 0 := by
  rw [onehot_apply, show (fun u => lg (ix2 b u)) = Spec.score xr v from funext hl]
  rfl

include hx hp hl hW hU in
/-- A layer's features before the activation, at one row and column. -/
theorem feat_apply (d : Fin 768) : feat x pr lg W U (ix2 b d) = Spec.feat xr w v u d := by
  have hg : ∀ t r, ∑ s, k0_pay1 (k0_pay21 lg) rows8 (ix2 b s) * k0_pay15 (F := Ideal) (ix2 (Spec.slot t r) s)
      = if t = Spec.sel xr v then (1 : EReal) else 0 := fun t r => by
    rw [Finset.sum_eq_single t]
    · rw [onehot_sel hl, group_apply, if_pos rfl, mul_one]
      exact if_congr eq_comm rfl rfl
    · intro s _ hs
      rw [group_apply, if_neg (Ne.symm hs), mul_zero]
    · simp
  show k0_pay3 k0_pay15 x pr (k0_pay21 lg) rows8 W U (ix2 b d) = _
  pointwise [k0_pay3]
  unfold Spec.feat
  refine congrArg₂ (· + ·) (Finset.sum_congr rfl fun k _ => by rw [hx, hW]) ?_
  rw [Spec.sum_group _ (Spec.sel xr v)]
  · refine Finset.sum_congr rfl fun r _ => ?_
    rw [hg, if_pos rfl, mul_one, hp, hU]
  · intro t r ht
    rw [hg, if_neg ht, mul_zero, zero_mul]

include hx hp hl hW hU in
/-- The next layer's input at one row and column. -/
theorem nextX_apply (d : Fin 768) : nextX x pr lg W U (ix2 b d) = Spec.gelu (Spec.feat xr w v u d) := by
  rw [← feat_apply hx hp hl hW hU d]
  show k0_pay5 k0_pay15 x pr (k0_pay21 lg) rows8 W U (ix2 b d) = _
  unfold Spec.gelu
  pointwise [k0_pay5, k0_pay4]

variable {vn : Vec Ideal S1x128x768 .f32} {v' : Fin 8 → Fin 16 → Fin 768 → EReal}
  (hv : ∀ t r d, vn (ix3 0 (Spec.slot t r) d) = v' t r d)

include hx hp hl hW hU hv in
/-- The next layer's projections at one row and slot. -/
theorem nextP_apply (t : Fin 8) (r : Fin 16) :
    nextP x pr lg W U vn (ix2 b (Spec.slot t r)) = Spec.proj (fun d => Spec.gelu (Spec.feat xr w v u d)) v' t r := by
  have hn : ∀ d, k0_pay4 k0_pay15 x pr (k0_pay21 lg) rows8 W U (ix2 b d) = Spec.gelu (Spec.feat xr w v u d) := fun d => by
    rw [← nextX_apply hx hp hl hW hU d]
    pointwise [k0_pay5]
  show k0_pay7 k0_pay15 x pr (k0_pay21 lg) rows8 W U vn (ix2 b (Spec.slot t r)) = _
  pointwise [k0_pay7, k0_pay6]
  exact Finset.sum_congr rfl fun d _ => by rw [hn, hv]

/-- The scores of projections at one row and group. -/
theorem score_of_proj {P : Fin 128 → EReal} {p : Fin 8 → Fin 16 → EReal} (h : ∀ t r, P (Spec.slot t r) = p t r) (t : Fin 8) :
    ∑ q, P q * P q * k0_pay15 (F := Ideal) (ix2 q t) = ∑ r, p t r * p t r := by
  rw [Spec.sum_group _ t]
  · exact Finset.sum_congr rfl fun r _ => by rw [group_apply, if_pos rfl, mul_one, h]
  · intro s r hs
    rw [group_apply, if_neg hs, mul_zero]

include hx hp hl hW hU hv in
/-- The next layer's scores at one row and expert. -/
theorem nextL_apply (t : Fin 8) :
    nextL x pr lg W U vn (ix2 b t) = Spec.score (fun d => Spec.gelu (Spec.feat xr w v u d)) v' t := by
  refine Eq.trans ?_ (score_of_proj (P := fun q => nextP x pr lg W U vn (ix2 b q)) (nextP_apply hx hp hl hW hU hv) t)
  show k0_pay8 k0_pay15 x pr (k0_pay21 lg) rows8 W U vn (ix2 b t) = _
  pointwise [k0_pay8, k0_pay7, k0_pay6]

include hl in
/-- The counts after a layer at one row and expert. -/
theorem nextC_apply (cnt : Vec Ideal S1024x8 .f32) (t : Fin 8) :
    nextC lg cnt (ix2 b t) = cnt (ix2 b t) + if Spec.sel xr v = t then (1 : EReal) else 0 := by
  rw [← onehot_sel hl]
  show k0_pay2 (k0_pay21 lg) rows8 cnt (ix2 b t) = _
  pointwise [k0_pay2]

include hx hp hl hW hU in
/-- The result block at one row and class. -/
theorem headOut_apply (cnt : Vec Ideal S1024x8 .f32) (hw : Vec Ideal S8x100x768 .f32) (hb : Vec Ideal S8x100 .f32) (c : Fin 100)
    {m : Fin 8} (hm : Spec.pick (fun t => cnt (ix2 b t)) = m) :
    headOut cnt x pr lg W U hw hb (ix2 b c) = (∑ d, Spec.feat xr w v u d * hw (ix3 m c d)) + hb (ix2 m c) := by
  have hf : ∀ d, k0_pay3 k0_pay15 x pr (k0_pay21 lg) rows8 W U (ix2 b d) = Spec.feat xr w v u d := feat_apply hx hp hl hW hU
  have ho := fun t => (onehot10_apply cnt b t).trans (by rw [hm])
  pointwise [k0_pay9, k0_pay11, k0_pay12, k0_pay13, k0_pay14]
  simp only [feat, hf, ho]
  have hh := fun k hk inb => Finset.sum_congr (rfl : (Finset.univ : Finset (Fin 768)) = Finset.univ)
    fun d _ => congrArg (Spec.feat xr w v u d * ·) (hd_apply hw k hk inb c d)
  fin_cases m <;> simp <;> exact congrArg (· + _) (hh _ (by decide) _)

end Layer

end Cert.KernelIdeal.Hand

end
-- ==== Proof.Blocks.lean ====
/- What the kernel's windows hold at each grid point: the block of the argument, or of the reshaped argument, that the
   point's layer takes. Hand-written. -/
module

public import proofs.«01_k».proof.Proof.KernelMath
public import Idealize.ShloMosaic.Lib.StableHlo.Run

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The arguments -/

/-- The batch, by row and column. -/
def aX (b : Fin 1024) (d : Fin 768) : EReal := (m ((c : Thread nD τ).loc main_arg0) : Vec Ideal S1024x768 .f32) (ix2 b d)
/-- The base weights, by layer, output column and input column. -/
def aW (l : Fin 12) (d k : Fin 768) : EReal := (m ((c : Thread nD τ).loc main_arg1) : Vec Ideal S12x768x768 .f32) (ix3 l d k)
/-- The projection directions, by layer, expert, direction and column. -/
def aV (l : Fin 12) (t : Fin 8) (r : Fin 16) (d : Fin 768) : EReal :=
  (m ((c : Thread nD τ).loc main_arg2) : Vec Ideal S12x8x16x768 .f32) (ix4 l t r d)
/-- The correction columns, by layer, expert, column and direction. -/
def aU (l : Fin 12) (t : Fin 8) (d : Fin 768) (r : Fin 16) : EReal :=
  (m ((c : Thread nD τ).loc main_arg3) : Vec Ideal S12x8x768x16 .f32) (ix4 l t d r)
/-- The heads, by expert, class and column. -/
def aHW (t : Fin 8) (k : Fin 100) (d : Fin 768) : EReal := (m ((c : Thread nD τ).loc main_arg4) : Vec Ideal S8x100x768 .f32) (ix3 t k d)
/-- The heads' biases, by expert and class. -/
def aHB (t : Fin 8) (k : Fin 100) : EReal := (m ((c : Thread nD τ).loc main_arg5) : Vec Ideal S8x100 .f32) (ix2 t k)

/-! ## The arrays the region finds -/

/-- A layer's experts and directions laid on one axis, read at a slot. -/
theorem dirs_apply (x : Vec Ideal S12x8x16x768 .f32) (l : Fin 12) (t : Fin 8) (r : Fin 16) (d : Fin 768) :
    shapeCast S12x128x768 x shapeCasts_S12x8x16x768_S12x128x768 (ix3 l (Spec.slot t r) d) = x (ix4 l t r d) := by
  have h1 : (⟨(Spec.slot t r).val / 16, by have := (Spec.slot t r).isLt; omega⟩ : Fin 8) = t := Fin.ext (by unfold Spec.slot; dsimp only; omega)
  have h2 : (⟨(Spec.slot t r).val % 16, Nat.mod_lt _ (by decide)⟩ : Fin 16) = r := Fin.ext (by unfold Spec.slot; dsimp only; omega)
  pointwise
  rw [h1, h2]

/-- The same of the correction columns, their last two axes exchanged first. -/
theorem cols_apply (x : Vec Ideal S12x8x768x16 .f32) (l : Fin 12) (t : Fin 8) (r : Fin 16) (d : Fin 768) :
    shapeCast S12x128x768 (transpose S12x8x16x768 [0, 1, 3, 2] x transposes_S12x8x768x16_S12x8x16x768_0_1_3_2)
      shapeCasts_S12x8x16x768_S12x128x768 (ix3 l (Spec.slot t r) d) = x (ix4 l t d r) := by
  have h1 : (⟨(Spec.slot t r).val / 16, by have := (Spec.slot t r).isLt; omega⟩ : Fin 8) = t := Fin.ext (by unfold Spec.slot; dsimp only; omega)
  have h2 : (⟨(Spec.slot t r).val % 16, Nat.mod_lt _ (by decide)⟩ : Fin 16) = r := Fin.ext (by unfold Spec.slot; dsimp only; omega)
  pointwise
  rw [h1, h2]

/-- The reshaped projection directions. -/
theorem V_dirs (l : Fin 12) (t : Fin 8) (r : Fin 16) (d : Fin 768) :
    (V m c main_v0 : Vec Ideal S12x128x768 .f32) (ix3 l (Spec.slot t r) d) = aV m c l t r d := by
  have e : (V m c main_v0 : Vec Ideal S12x128x768 .f32)
      = shapeCast S12x128x768 (m ((c : Thread nD τ).loc main_arg2) : Vec Ideal S12x8x16x768 .f32) shapeCasts_S12x8x16x768_S12x128x768 := by
    show StableHlo.after hostOps0 _ (Proc.devRef .tc main_v0) = _
    after_results
    rfl
  rw [e, dirs_apply]
  rfl

/-- The reshaped correction columns. -/
theorem V_cols (l : Fin 12) (t : Fin 8) (r : Fin 16) (d : Fin 768) :
    (V m c main_v2 : Vec Ideal S12x128x768 .f32) (ix3 l (Spec.slot t r) d) = aU m c l t d r := by
  have e : (V m c main_v2 : Vec Ideal S12x128x768 .f32)
      = shapeCast S12x128x768 (transpose S12x8x16x768 [0, 1, 3, 2] (m ((c : Thread nD τ).loc main_arg3) : Vec Ideal S12x8x768x16 .f32)
        transposes_S12x8x768x16_S12x8x16x768_0_1_3_2) shapeCasts_S12x8x16x768_S12x128x768 := by
    show StableHlo.after hostOps0 _ (Proc.devRef .tc main_v2) = _
    after_results
    rfl
  rw [e, cols_apply]
  rfl

/-! ## The windows' blocks -/

theorem idx_W : ∀ t : Fin cfg0.N, win0_1.index t 0 = t.val ∧ win0_1.index t 1 = 0 ∧ win0_1.index t 2 = 0 := by decide +kernel
theorem idx_vh : ∀ t : Fin cfg0.N, win0_2.index t 0 = 0 ∧ win0_2.index t 1 = 0 ∧ win0_2.index t 2 = 0 := by decide +kernel
theorem idx_vn : ∀ t : Fin cfg0.N, win0_3.index t 0 = min (t.val + 1) 11 ∧ win0_3.index t 1 = 0 ∧ win0_3.index t 2 = 0 := by decide +kernel
theorem idx_U : ∀ t : Fin cfg0.N, win0_4.index t 0 = t.val ∧ win0_4.index t 1 = 0 ∧ win0_4.index t 2 = 0 := by decide +kernel
theorem idx_X : ∀ t : Fin cfg0.N, win0_0.index t 0 = 0 ∧ win0_0.index t 1 = 0 := by decide +kernel
theorem idx_hw : ∀ t : Fin cfg0.N, win0_5.index t 0 = 0 ∧ win0_5.index t 1 = 0 ∧ win0_5.index t 2 = 0 := by decide +kernel
theorem idx_hb : ∀ t : Fin cfg0.N, win0_6.index t 0 = 0 ∧ win0_6.index t 1 = 0 := by decide +kernel

/-- The batch's block is the batch. -/
theorem blk_X (t : Fin cfg0.N) (b : Fin 1024) (d : Fin 768) : (iblk m c 0 t : Vec Ideal S1024x768 .f32) (ix2 b d) = aX m c b d := by
  obtain ⟨h0, h1⟩ := idx_X t
  unfold iblk aX
  rw [View.read_apply, ← V_main_arg0 m c]
  refine congrArg (V m c main_arg0) (funext fun a => Fin.ext ?_)
  match a with
  | ⟨0, _⟩ => show win0_0.index t 0 * 1024 + 1 * b.val = b.val; rw [h0]; omega
  | ⟨1, _⟩ => show win0_0.index t 1 * 768 + 1 * d.val = d.val; rw [h1]; omega

/-- The base weights' block is the layer's. -/
theorem blk_W (t : Fin cfg0.N) (d k : Fin 768) : (iblk m c 1 t : Vec Ideal S1x768x768 .f32) (ix3 0 d k) = aW m c (Spec.lay t.val) d k := by
  obtain ⟨h0, h1, h2⟩ := idx_W t
  have hN : t.val < 12 := lt_of_lt_of_eq t.isLt N_0
  unfold iblk aW
  rw [View.read_apply, ← V_main_arg1 m c]
  refine congrArg (V m c main_arg1) (funext fun a => Fin.ext ?_)
  match a with
  | ⟨0, _⟩ => show win0_1.index t 0 * 1 + 1 * 0 = min t.val 11; rw [h0]; omega
  | ⟨1, _⟩ => show win0_1.index t 1 * 768 + 1 * d.val = d.val; rw [h1]; omega
  | ⟨2, _⟩ => show win0_1.index t 2 * 768 + 1 * k.val = k.val; rw [h2]; omega

/-- The first directions' block is layer 0's. -/
theorem blk_vh (n : Fin cfg0.N) (t : Fin 8) (r : Fin 16) (d : Fin 768) :
    (iblk m c 2 n : Vec Ideal S1x128x768 .f32) (ix3 0 (Spec.slot t r) d) = aV m c (Spec.lay 0) t r d := by
  obtain ⟨h0, h1, h2⟩ := idx_vh n
  unfold iblk
  rw [View.read_apply, ← V_dirs]
  refine congrArg (V m c main_v0) (funext fun a => Fin.ext ?_)
  match a with
  | ⟨0, _⟩ => show win0_2.index n 0 * 1 + 1 * 0 = min 0 11; rw [h0]; rfl
  | ⟨1, _⟩ => show win0_2.index n 1 * 128 + 1 * (Spec.slot t r).val = (Spec.slot t r).val; rw [h1]; omega
  | ⟨2, _⟩ => show win0_2.index n 2 * 768 + 1 * d.val = d.val; rw [h2]; omega

/-- The next directions' block is the next layer's. -/
theorem blk_vn (n : Fin cfg0.N) (t : Fin 8) (r : Fin 16) (d : Fin 768) :
    (iblk m c 3 n : Vec Ideal S1x128x768 .f32) (ix3 0 (Spec.slot t r) d) = aV m c (Spec.lay (n.val + 1)) t r d := by
  obtain ⟨h0, h1, h2⟩ := idx_vn n
  unfold iblk
  rw [View.read_apply, ← V_dirs]
  refine congrArg (V m c main_v0) (funext fun a => Fin.ext ?_)
  match a with
  | ⟨0, _⟩ => show win0_3.index n 0 * 1 + 1 * 0 = min (n.val + 1) 11; rw [h0]; omega
  | ⟨1, _⟩ => show win0_3.index n 1 * 128 + 1 * (Spec.slot t r).val = (Spec.slot t r).val; rw [h1]; omega
  | ⟨2, _⟩ => show win0_3.index n 2 * 768 + 1 * d.val = d.val; rw [h2]; omega

/-- The correction columns' block is the layer's. -/
theorem blk_U (n : Fin cfg0.N) (t : Fin 8) (r : Fin 16) (d : Fin 768) :
    (iblk m c 4 n : Vec Ideal S1x128x768 .f32) (ix3 0 (Spec.slot t r) d) = aU m c (Spec.lay n.val) t d r := by
  obtain ⟨h0, h1, h2⟩ := idx_U n
  have hN : n.val < 12 := lt_of_lt_of_eq n.isLt N_0
  unfold iblk
  rw [View.read_apply, ← V_cols]
  refine congrArg (V m c main_v2) (funext fun a => Fin.ext ?_)
  match a with
  | ⟨0, _⟩ => show win0_4.index n 0 * 1 + 1 * 0 = min n.val 11; rw [h0]; omega
  | ⟨1, _⟩ => show win0_4.index n 1 * 128 + 1 * (Spec.slot t r).val = (Spec.slot t r).val; rw [h1]; omega
  | ⟨2, _⟩ => show win0_4.index n 2 * 768 + 1 * d.val = d.val; rw [h2]; omega

/-- The heads' block is the stack of heads. -/
theorem blk_hw (n : Fin cfg0.N) (t : Fin 8) (k : Fin 100) (d : Fin 768) :
    (iblk m c 5 n : Vec Ideal S8x100x768 .f32) (ix3 t k d) = aHW m c t k d := by
  obtain ⟨h0, h1, h2⟩ := idx_hw n
  unfold iblk aHW
  rw [View.read_apply, ← V_main_arg4 m c]
  refine congrArg (V m c main_arg4) (funext fun a => Fin.ext ?_)
  match a with
  | ⟨0, _⟩ => show win0_5.index n 0 * 8 + 1 * t.val = t.val; rw [h0]; omega
  | ⟨1, _⟩ => show win0_5.index n 1 * 100 + 1 * k.val = k.val; rw [h1]; omega
  | ⟨2, _⟩ => show win0_5.index n 2 * 768 + 1 * d.val = d.val; rw [h2]; omega

/-- The biases' block is all the biases. -/
theorem blk_hb (n : Fin cfg0.N) (t : Fin 8) (k : Fin 100) : (iblk m c 6 n : Vec Ideal S8x100 .f32) (ix2 t k) = aHB m c t k := by
  obtain ⟨h0, h1⟩ := idx_hb n
  unfold iblk aHB
  rw [View.read_apply, ← V_main_arg5 m c]
  refine congrArg (V m c main_arg5) (funext fun a => Fin.ext ?_)
  match a with
  | ⟨0, _⟩ => show win0_6.index n 0 * 8 + 1 * t.val = t.val; rw [h0]; omega
  | ⟨1, _⟩ => show win0_6.index n 1 * 100 + 1 * k.val = k.val; rw [h1]; omega

end Cert.KernelIdeal.Hand

end
-- ==== Proof.KernelRun.lean ====
/- The kernel's run over the extended reals: what its scratch holds after each grid point, by induction on the point, and
   the result array it ends with. Hand-written. -/
module

public import proofs.«01_k».proof.Proof.Blocks

@[expose] public section

set_option maxRecDepth 16384

noncomputable section

namespace Cert.KernelIdeal.Hand

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg) (c : Dev nD)

/-- Row `b` as layer `n` takes it. -/
abbrev rowAt (b : Fin 1024) (n : ℕ) : Fin 768 → EReal := Spec.row (aX m c b) (aW m c) (aV m c) (aU m c) n

/-- The scratch is ready for layer `n`: its input, the votes so far, its projections and its scores. -/
structure Ready (n : ℕ) (s : FVec Ideal S1024x768 .f32 × FVec Ideal S1024x8 .f32 × FVec Ideal S1024x128 .f32 × FVec Ideal S1024x8 .f32) :
    Prop where
  x : ∀ b d, s.1 (ix2 b d) = rowAt m c b n d
  cnt : ∀ b t, s.2.1 (ix2 b t) = Spec.votes (aX m c b) (aW m c) (aV m c) (aU m c) n t
  pr : ∀ b t r, s.2.2.1 (ix2 b (Spec.slot t r)) = Spec.proj (rowAt m c b n) (aV m c (Spec.lay n)) t r
  lg : ∀ b t, s.2.2.2 (ix2 b t) = Spec.score (rowAt m c b n) (aV m c (Spec.lay n)) t

/-- What the first point puts in the scratch before its layer is ready for layer 0. -/
theorem ready_zero {x0 : Vec Ideal S1024x768 .f32} {x2 : Vec Ideal S1x128x768 .f32} (h0 : ∀ b d, x0 (ix2 b d) = aX m c b d)
    (h2 : ∀ t r d, x2 (ix3 0 (Spec.slot t r) d) = aV m c (Spec.lay 0) t r d) :
    Ready m c 0 (k0_pay16 x0, k0_pay17, k0_pay19 x0 x2, k0_pay20 x0 x2) := by
  have hp : ∀ b t r, k0_pay19 x0 x2 (ix2 b (Spec.slot t r)) = Spec.proj (rowAt m c b 0) (aV m c (Spec.lay 0)) t r := by
    intro b t r
    pointwise [k0_pay19, k0_pay18]
    exact Finset.sum_congr rfl fun d _ => by rw [h0, h2]; rfl
  refine ⟨?_, ?_, hp, ?_⟩
  · intro b d
    pointwise [k0_pay16]
    exact h0 b d
  · intro b t
    pointwise [k0_pay17]
    rfl
  · intro b t
    refine Eq.trans ?_ (score_of_proj (P := fun q => k0_pay19 x0 x2 (ix2 b q)) (hp b) t)
    pointwise [k0_pay20, k0_pay19, k0_pay18]

/-- A layer's step takes a scratch ready for layer `n` to one ready for layer `n + 1`. -/
theorem ready_succ {n : ℕ} {x : Vec Ideal S1024x768 .f32} {cnt : Vec Ideal S1024x8 .f32} {pr : Vec Ideal S1024x128 .f32}
    {lg : Vec Ideal S1024x8 .f32} (h : Ready m c n (x, cnt, pr, lg)) {W : Vec Ideal S1x768x768 .f32} {U vn : Vec Ideal S1x128x768 .f32}
    (hW : ∀ d k, W (ix3 0 d k) = aW m c (Spec.lay n) d k) (hU : ∀ t r d, U (ix3 0 (Spec.slot t r) d) = aU m c (Spec.lay n) t d r)
    (hv : ∀ t r d, vn (ix3 0 (Spec.slot t r) d) = aV m c (Spec.lay (n + 1)) t r d) :
    Ready m c (n + 1) (nextX x pr lg W U, nextC lg cnt, nextP x pr lg W U vn, nextL x pr lg W U vn) where
  x b d := nextX_apply (h.x b) (h.pr b) (h.lg b) hW hU d
  cnt b t := by
    refine (nextC_apply (h.lg b) cnt t).trans ?_
    unfold Spec.votes
    rw [Finset.sum_range_succ]
    exact congrArg (· + _) (h.cnt b t)
  pr b t r := nextP_apply (h.x b) (h.pr b) (h.lg b) hW hU hv t r
  lg b t := nextL_apply (h.x b) (h.pr b) (h.lg b) hW hU hv t

/-- After point `n` of the first eleven the scratch is ready for layer `n + 1`. -/
theorem ready_at : ∀ (n : ℕ) (h : n < cfg0.N), n < 11 → Ready m c (n + 1) (outsAt0 m c n h).2
  | 0, h, h1 => by
    rw [(congrArg Prod.snd (outsAt0_A m c ⟨0, h⟩ rfl (by show 0 < 11; omega) (by show ¬0 % 12 = 11; omega))).trans (scratch_A ..)]
    have hr := ready_zero m c (x0 := iblk m c 0 ⟨0, h⟩) (x2 := iblk m c 2 ⟨0, h⟩) (blk_X m c ⟨0, h⟩) (blk_vh m c ⟨0, h⟩)
    have hW := blk_W m c ⟨0, h⟩
    have hU := blk_U m c ⟨0, h⟩
    have hv := blk_vn m c ⟨0, h⟩
    exact ready_succ m c hr hW hU hv
  | n + 1, h, h1 => by
    have ih := ready_at n (Nat.lt_of_succ_lt h) (by omega)
    rw [(congrArg Prod.snd (outsAt0_B m c ⟨n + 1, h⟩ (by show ¬(n + 1) % 12 = 0; omega) (by show n + 1 < 11; omega)
      (by show ¬(n + 1) % 12 = 11; omega))).trans (scratch_B ..)]
    exact ready_succ m c ih (blk_W m c ⟨n + 1, h⟩) (blk_U m c ⟨n + 1, h⟩) (blk_vn m c ⟨n + 1, h⟩)

/-- The result, as contents of the result array. -/
def result : Vec Ideal S1024x100 .f32 := fun i =>
  Spec.out (aX m c (i 0)) (aW m c) (aV m c) (aU m c) (aHW m c) (aHB m c) (i 1)

/-- The last step takes a scratch ready for layer 11 to the result. -/
theorem ready_last {x : Vec Ideal S1024x768 .f32} {cnt : Vec Ideal S1024x8 .f32} {pr : Vec Ideal S1024x128 .f32}
    {lg : Vec Ideal S1024x8 .f32} (h : Ready m c 11 (x, cnt, pr, lg)) {W : Vec Ideal S1x768x768 .f32} {U : Vec Ideal S1x128x768 .f32}
    (hW : ∀ d k, W (ix3 0 d k) = aW m c (Spec.lay 11) d k) (hU : ∀ t r d, U (ix3 0 (Spec.slot t r) d) = aU m c (Spec.lay 11) t d r)
    {hw : Vec Ideal S8x100x768 .f32} {hb : Vec Ideal S8x100 .f32} (hH : ∀ t k d, hw (ix3 t k d) = aHW m c t k d)
    (hB : ∀ t k, hb (ix2 t k) = aHB m c t k) : headOut (nextC lg cnt) x pr lg W U hw hb = result m c := by
  funext i
  idx_vars i
  rename' i0 => b, i1 => k
  have hm : Spec.pick (fun t => nextC lg cnt (ix2 b t)) = Spec.major (aX m c b) (aW m c) (aV m c) (aU m c) := by
    unfold Spec.major
    refine congrArg Spec.pick (funext fun t => (nextC_apply (h.lg b) _ t).trans ?_)
    unfold Spec.votes
    rw [Finset.sum_range_succ]
    exact congrArg (· + _) (h.cnt b t)
  rw [headOut_apply (h.x b) (h.pr b) (h.lg b) hW hU _ _ _ k hm, hB]
  simp only [hH]
  rfl

/-- The last point leaves the result in the output's buffer. -/
theorem out_last (t : Fin cfg0.N) (ht : t.val = 11) : (outsAt0 m c t.val t.isLt).1 = result m c := by
  have hp : t.val - 1 < cfg0.N := by have := t.isLt; omega
  have ih : Ready m c 11 (outsAt0 m c (t.val - 1) hp).2 := by
    have h := ready_at m c (t.val - 1) hp (by omega)
    rwa [show t.val - 1 + 1 = 11 by omega] at h
  have hW := blk_W m c t
  have hU := blk_U m c t
  rw [ht] at hW hU
  have hC := congrArg Prod.fst (outsAt0_C m c t (by omega) (by omega) (by omega))
  dsimp only at hC
  rw [hC, scratch_C]
  exact ready_last m c ih hW hU (blk_hw m c t) (blk_hb m c t)

theorem idx_out : ∀ t : Fin cfg0.N, win0_7.index t 0 = 0 ∧ win0_7.index t 1 = 0 := by decide +kernel

/-- The one write-back, at the last point, writes the result over the whole array. -/
theorem flushed_out (t : Fin cfg0.N) (hf : (cfg0.win 7).flush t = true) :
    (dats m 0 c).flushed 7 t = ((cfg0.win 7).blk t).view.read (Elt Ideal) (result m c : Buf (Elt Ideal) ((c : Thread nD τ).loc main_v3)) := by
  have hN : cfg0.N = 12 := N_0
  have h11 : t.val = 11 := by have := (flush0_7 t).mp hf; have := t.isLt; omega
  show (cfg0.win 7).cut (grid0.coords t) ((dats m 0 c).after 7 t) = _
  rw [after0_7, out_last m c t h11]
  have hz : (fun a => win0_7.index t a * main_v3.ty.shape.size a) = fun _ => 0 := funext fun a => by
    obtain ⟨h0, h1⟩ := idx_out t
    match a with
    | ⟨0, _⟩ => show win0_7.index _ 0 * _ = 0; rw [h0, Nat.zero_mul]
    | ⟨1, _⟩ => show win0_7.index _ 1 * _ = 0; rw [h1, Nat.zero_mul]
  exact (Memref.read_access_unit_zero (Elt Ideal) main_v3 hz (fun a => by rw [congrFun hz a]; simp) (result m c)).symm

/-- The last grid point. -/
def lastPt : Fin cfg0.N := ⟨11, by rw [show cfg0.N = 12 from N_0]; decide⟩

/-- The result array ends holding the result. -/
theorem final_out : (dats m 0 c).arrAt 7 cfg0.N = (result m c : Buf (Elt Ideal) ((c : Thread nD τ).loc main_v3)) :=
  (dats m 0 c).arrAt_eq_of_cover 7 (result m c) (flushed_out m c) fun i =>
    ⟨lastPt, (flush0_7 lastPt).mpr rfl, by
      obtain ⟨e0, e1⟩ := idx_out lastPt
      show i ∈ ((View.whole main_v3).slice (win0_7.rect lastPt)).set
      rw [View.set_slice_whole, Rect.mem_set_unit]
      have h0 : (i 0 : Nat) < 1024 := (i 0).isLt
      have h1 : (i 1 : Nat) < 100 := (i 1).isLt
      intro a
      match a with
      | ⟨0, _⟩ => show win0_7.index lastPt 0 * 1024 ≤ (i 0 : Nat) ∧ (i 0 : Nat) < win0_7.index lastPt 0 * 1024 + 1024
                  rw [e0]; omega
      | ⟨1, _⟩ => show win0_7.index lastPt 1 * 100 ≤ (i 1 : Nat) ∧ (i 1 : Nat) < win0_7.index lastPt 1 * 100 + 100
                  rw [e1]; omega⟩

/-- The run: the result array at the result, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have keep : ∀ (r : PUnit × MemSt nD τ sig (Elt Ideal)), Pipeline.FramePost cfgs (dats m) 0 (V m) r → ∀ (c : Dev nD) (w : Fin cfg0.W),
      (cfg0.win w).isOut = false → ∀ {v}, V m c (Pipeline.arrRef spec0 w) = v →
      r.2.mem ((c : Thread nD τ).loc (Pipeline.arrRef spec0 w)) = v := fun r h c w hw v hv =>
    ((h c).1 w).trans (((dats m 0 c).arrAt_in w hw _).trans ((A_eq m c w).trans hv))
  have rest : ∀ (r : PUnit × MemSt nD τ sig (Elt Ideal)), Pipeline.FramePost cfgs (dats m) 0 (V m) r → ∀ (c : Dev nD),
      r.2.mem ((c : Thread nD τ).loc main_arg2) = V m c main_arg2 ∧ r.2.mem ((c : Thread nD τ).loc main_arg3) = V m c main_arg3 :=
    fun r h c => ⟨(h c).2 main_arg2 (Pipeline.mem_restRefs_of main_arg2 (by decide) (by decide)),
      (h c).2 main_arg3 (Pipeline.mem_restRefs_of main_arg3 (by decide) (by decide))⟩
  refine (θ_run defs _ _).mono (fun r h c => ?_) (run_main m ρ)
  exact ⟨((h c).1 7).trans (final_out m c), keep r h c 0 rfl (V_main_arg0 m c), keep r h c 1 rfl (V_main_arg1 m c),
    (rest r h c).1.trans (V_main_arg2 m c), (rest r h c).2.trans (V_main_arg3 m c),
    keep r h c 5 rfl (V_main_arg4 m c), keep r h c 6 rfl (V_main_arg5 m c)⟩

end Cert.KernelIdeal.Hand

end
-- ==== Proof.RefPick.lean ====
/- How the reference chooses an expert: its arg-max of a row of eight, over the extended reals, is the first place of a
   greatest value. Hand-written. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Hand

open Idealize.ShloMosaic Idealize.SL.Sem
open Cert.ReferenceIdeal Cert.ReferenceIdeal.Gen

/-- The better of two pairs of a value and a place: the greater value, at a tie the earlier place. -/
def better (a b : EReal × Fin 8) : EReal × Fin 8 := if b.1 < a.1 ∨ (a.1 = b.1 ∧ a.2 < b.2) then a else b

/-- Pair `r` is at least as good as pair `e`. -/
def Beats (r e : EReal × Fin 8) : Prop := e.1 < r.1 ∨ (e.1 = r.1 ∧ r.2 ≤ e.2)

theorem Beats.refl (r : EReal × Fin 8) : Beats r r := Or.inr ⟨rfl, le_rfl⟩

theorem Beats.trans {a b c : EReal × Fin 8} (h : Beats a b) (k : Beats b c) : Beats a c := by
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

theorem better_left (a b : EReal × Fin 8) : Beats (better a b) a := by
  unfold better
  split
  · exact Beats.refl a
  · rename_i h
    rw [not_or] at h
    rcases (not_lt.mp h.1).lt_or_eq with k | k
    · exact Or.inl k
    · exact Or.inr ⟨k, not_lt.mp fun l => h.2 ⟨k, l⟩⟩

theorem better_right (a b : EReal × Fin 8) : Beats (better a b) b := by
  unfold better
  split
  · rename_i h
    rcases h with h | ⟨h, h'⟩
    · exact Or.inl h
    · exact Or.inr ⟨h.symm, h'.le⟩
  · exact Beats.refl b

/-- The best of a list of pairs and a first one is one of them and beats them all. -/
theorem best_spec (L : List (EReal × Fin 8)) (e : EReal × Fin 8) :
    (L.foldl better e = e ∨ L.foldl better e ∈ L) ∧ Beats (L.foldl better e) e ∧ ∀ a ∈ L, Beats (L.foldl better e) a := by
  induction L generalizing e with
  | nil => exact ⟨Or.inl rfl, Beats.refl e, fun a ha => absurd ha List.not_mem_nil⟩
  | cons b L ih =>
    obtain ⟨h1, h2, h3⟩ := ih (better e b)
    rw [List.foldl_cons]
    refine ⟨?_, h2.trans (better_left e b), fun a ha => ?_⟩
    · rcases h1 with h1 | h1
      · rw [h1]
        unfold better
        split
        · exact Or.inl rfl
        · exact Or.inr List.mem_cons_self
      · exact Or.inr (List.mem_cons_of_mem _ h1)
    · rcases List.mem_cons.mp ha with rfl | ha
      · exact h2.trans (better_right e a)
      · exact h3 a ha

/-- A pair with its place written as a word. -/
def word (a : EReal × Fin 8) : EReal × BitVec 32 := (a.1, BitVec.ofNat 32 a.2.val)

theorem slt_words (x t : Fin 8) : IntOp.cmpi .slt (BitVec.ofNat 32 x.val) (BitVec.ofNat 32 t.val) = BitVec.ofBool (decide (x < t)) := by
  revert x t; decide +kernel

/-- The body of the reference's arg-max keeps the better pair. -/
theorem argmax_word (a b : EReal × Fin 8) : reducer_argmax_f32_i32 (F := Ideal) (word a) (word b) = word (better a b) := by
  obtain ⟨x, p⟩ := a
  obtain ⟨y, q⟩ := b
  unfold reducer_argmax_f32_i32 word better
  dsimp only
  rw [slt_words]
  simp only [Ideal.cmpf_def, Ideal.cmp]
  rcases lt_trichotomy x y with h | h | h
  · have h1 : ¬ y < x := not_lt.mpr h.le
    have h2 : ¬ x = y := h.ne
    simp [h1, h2, Scalar.select, IntOp.ori, IntOp.andi]
  · subst h
    by_cases hp : p < q <;> simp [hp, Scalar.select, IntOp.ori, IntOp.andi]
  · have h2 : ¬ x = y := h.ne'
    simp [h, h2, Scalar.select, IntOp.ori, IntOp.andi]

theorem best_words (L : List (EReal × Fin 8)) (e : EReal × Fin 8) :
    (L.map word).foldl (reducer_argmax_f32_i32 (F := Ideal)) (word e) = word (L.foldl better e) := by
  induction L generalizing e with
  | nil => rfl
  | cons b L ih => rw [List.map_cons, List.foldl_cons, argmax_word, ih]; rfl

/-- The places of the row's values, in the order the reduction meets them. -/
def fiber (x : FVec Ideal S1024x8 .f32) (j : S1024.Idx) : List (EReal × Fin 8) :=
  ((List.finRange S1024x8.numel).filter fun n => reducesTo_S1024x8_S1024_d1.drop (S1024x8.rowMajor.symm n) = j).map
    fun n => (x (S1024x8.rowMajor.symm n), (S1024x8.rowMajor.symm n) 1)

theorem mem_fiber (x : FVec Ideal S1024x8 .f32) (b : Fin 1024) (a : EReal × Fin 8) :
    a ∈ fiber x (ix1 b) ↔ a.1 = x (ix2 b a.2) := by
  unfold fiber
  rw [List.mem_map]
  have hdrop : ∀ i : S1024x8.Idx, reducesTo_S1024x8_S1024_d1.drop i = ix1 b ↔ i 0 = b := by
    intro i
    have hv : (reducesTo_S1024x8_S1024_d1.drop i 0 : Nat) = i 0 := Shape.ReducesTo.drop_apply_val reducesTo_S1024x8_S1024_d1 i 0
    constructor
    · intro e; rw [e] at hv; exact Fin.ext hv.symm
    · intro e; funext k; have hk : k = 0 := Subsingleton.elim _ _; subst hk; exact Fin.ext (by rw [hv, e]; rfl)
  constructor
  · rintro ⟨n, hn, rfl⟩
    have h := of_decide_eq_true (List.mem_filter.mp hn).2
    rw [hdrop] at h
    dsimp only
    refine congrArg x (funext fun k => ?_)
    match k with
    | ⟨0, _⟩ => exact h
    | ⟨1, _⟩ => rfl
  · intro h
    refine ⟨S1024x8.rowMajor (ix2 b a.2), List.mem_filter.mpr ⟨List.mem_finRange _, decide_eq_true ?_⟩, ?_⟩
    · rw [Equiv.symm_apply_apply, hdrop]; rfl
    · rw [Equiv.symm_apply_apply, ← h]; rfl

/-- The arg-max of a row of eight, as a word, is the first place of a greatest value. -/
theorem argmax_apply (x : FVec Ideal S1024x8 .f32) (b : Fin 1024) :
    (Host.argReduce reducer_argmax_f32_i32 x (iotaInDim S1024x8 32 1) (constant S_ .f32 0xFF800000#32) (constantI S_ 32 0#32)
        reducesTo_S1024x8_S1024_d1 h_S_ (ix1 b)).2
      = BitVec.ofNat 32 (Spec.pick fun u => x (ix2 b u)).val := by
  rw [Ideal.argReduce_eq_reduce2, Host.reduce2_eq_foldl_fiber]
  have hf : Host.argReduceFiber x (iotaInDim S1024x8 32 1) reducesTo_S1024x8_S1024_d1 (ix1 b) = (fiber x (ix1 b)).map word := by
    unfold Host.argReduceFiber fiber
    rw [List.map_map]; rfl
  have hi : ((constant (F := Ideal) S_ .f32 0xFF800000#32) (Shape.Idx.first h_S_), (constantI S_ 32 0#32) (Shape.Idx.first h_S_)) = word ((⊥ : EReal), 0) := by
    refine Prod.ext ?_ rfl
    show Ideal.ofBits FTy.f32 4286578688#32 = (⊥ : EReal)
    simp [Ideal.ofBits, Ideal.ieee]
  rw [hf, hi, best_words]
  obtain ⟨h1, h2, h3⟩ := best_spec (fiber x (ix1 b)) ((⊥ : EReal), 0)
  generalize hr : (fiber x (ix1 b)).foldl better ((⊥ : EReal), 0) = r at h1 h2 h3
  have hrow : r.1 = x (ix2 b r.2) := by
    rcases h1 with h1 | h1
    · subst h1
      have h0 := h3 (x (ix2 b 0), 0) ((mem_fiber x b _).mpr rfl)
      rcases h0 with h0 | h0
      · exact absurd h0 not_lt_bot
      · exact h0.1.symm
    · exact (mem_fiber x b _).mp h1
  show BitVec.ofNat 32 r.2.val = _
  rw [Spec.pick_eq (t := r.2)]
  refine ⟨fun u => ?_, fun u hu => ?_⟩
  · show x (ix2 b u) ≤ x (ix2 b r.2)
    rw [← hrow]
    rcases h3 (x (ix2 b u), u) ((mem_fiber x b _).mpr rfl) with h | h
    · exact h.le
    · exact h.1.le
  · show x (ix2 b u) < x (ix2 b r.2)
    rw [← hrow]
    rcases h3 (x (ix2 b u), u) ((mem_fiber x b _).mpr rfl) with h | h
    · exact h
    · exact absurd h.2 (not_le.mpr hu)

end Cert.ReferenceIdeal.Hand
-- ==== Proof.RefTake.lean ====
/- How the reference takes the chosen expert's slices: at an index that is one of the eight places the wrap and the
   range mask do nothing, and the gather reads that place. Hand-written. -/
module

public import proofs.«01_k».proof.Proof.RefPick
public import Idealize.ShloMosaic.Lib.ReduceAll

@[expose] public section

set_option maxRecDepth 16384

noncomputable section

namespace Cert.ReferenceIdeal.Hand

open Idealize.ShloMosaic Idealize.SL.Sem
open Cert.ReferenceIdeal Cert.ReferenceIdeal.Gen

/-- A column of indices, the negative ones moved up by eight. -/
def wrap3 (v : IVec S1024x1x1 32) : IVec S1024x1x1 32 :=
  select (cmpi .slt v (broadcastInDim S1024x1x1 ![] bcast_S_S1024x1x1 (constantI S_ 32 0#32)))
    (addi v (broadcastInDim S1024x1x1 ![] bcast_S_S1024x1x1 (constantI S_ 32 8#32))) v

/-- Which of them lie between 0 and 7, before the reduction. -/
def inRange3 (v : IVec S1024x1x1 32) : IVec S1024x1x1 1 :=
  andi (cmpi .sge v (broadcastInDim S1024x1x1 ![] bcast_S_S1024x1x1 (constantI S_ 32 0#32)))
    (cmpi .sle v (broadcastInDim S1024x1x1 ![0, 1, 2] bcast_S1x1x1_S1024x1x1_0_1_2
      (broadcastInDim S1x1x1 ![2] bcast_S1_S1x1x1_2 (constantI S1 32 7#32))))

/-- The chosen expert's projections of each row. -/
def takeP (p : FVec Ideal S1024x8x16 .f32) (v : IVec S1024x1x1 32) : FVec Ideal S1024x1x16 .f32 :=
  select (broadcastInDim S1024x1x16 ![0, 1] bcast_S1024x1_S1024x1x16_0_1
      (Host.reduce IntOp.andi (inRange3 (wrap3 v)) (constantI S_ 1 1#1) reducesTo_S1024x1x1_S1024x1_d2 h_S_))
    (Host.gather gather_S1024x8x16_S1024x1x1_S1024x1x16_2_1_0_0_1_2_1116 p (wrap3 v))
    (broadcastInDim S1024x1x16 ![] bcast_S_S1024x1x16 (constant (F := Ideal) S_ .f32 0x7FC00000#32))

/-- The indices as a column, the negative ones moved up by eight. -/
def wrap1 (v : IVec S1024 32) : IVec S1024x1 32 :=
  broadcastInDim S1024x1 ![0] bcast_S1024_S1024x1_0
    (select (cmpi .slt v (broadcastInDim S1024 ![] bcast_S_S1024 (constantI S_ 32 0#32)))
      (addi v (broadcastInDim S1024 ![] bcast_S_S1024 (constantI S_ 32 8#32))) v)

/-- Which of them lie between 0 and 7, before the reduction. -/
def inRange1 (v : IVec S1024x1 32) : IVec S1024x1 1 :=
  andi (cmpi .sge v (broadcastInDim S1024x1 ![] bcast_S_S1024x1 (constantI S_ 32 0#32)))
    (cmpi .sle v (broadcastInDim S1024x1 ![0, 1] bcast_S1x1_S1024x1_0_1
      (broadcastInDim S1x1 ![1] bcast_S1_S1x1_1 (constantI S1 32 7#32))))

/-- The chosen expert's table, one per row. -/
def takeU (u : FVec Ideal S8x768x16 .f32) (v : IVec S1024 32) : FVec Ideal S1024x768x16 .f32 :=
  select (broadcastInDim S1024x768x16 ![0] bcast_S1024_S1024x768x16_0
      (Host.reduce IntOp.andi (inRange1 (wrap1 v)) (constantI S_ 1 1#1) reducesTo_S1024x1_S1024_d1 h_S_))
    (Host.gather gather_S8x768x16_S1024x1_S1024x768x16_12_0_n_n_0_1_176816 u (wrap1 v))
    (broadcastInDim S1024x768x16 ![] bcast_S_S1024x768x16 (constant (F := Ideal) S_ .f32 0x7FC00000#32))

theorem wrap_word (t : Fin 8) : Scalar.select (IntOp.cmpi .slt (BitVec.ofNat 32 t.val) 0#32)
    (IntOp.addi (BitVec.ofNat 32 t.val) 8#32) (BitVec.ofNat 32 t.val) = BitVec.ofNat 32 t.val := by
  revert t; decide +kernel

theorem toInt_word (t : Fin 8) : (BitVec.ofNat 32 t.val).toInt = t.val := by
  revert t; decide +kernel

theorem range_word (t : Fin 8) : IntOp.andi (IntOp.cmpi .sge (BitVec.ofNat 32 t.val) 0#32)
    (IntOp.cmpi .sle (BitVec.ofNat 32 t.val) 7#32) = 1#1 := by
  revert t; decide +kernel

variable (σ : Fin 1024 → Fin 8)

theorem wrap3_apply (v : IVec S1024x1x1 32) (hv : ∀ b, v (ix3 b 0 0) = BitVec.ofNat 32 (σ b).val) (b : Fin 1024) :
    wrap3 v (ix3 b 0 0) = BitVec.ofNat 32 (σ b).val := by
  pointwise [wrap3]
  rw [hv]; exact wrap_word _

theorem inRange3_apply (v : IVec S1024x1x1 32) (hv : ∀ b, v (ix3 b 0 0) = BitVec.ofNat 32 (σ b).val) (b : Fin 1024) :
    inRange3 v (ix3 b 0 0) = 1#1 := by
  pointwise [inRange3]
  rw [hv]; exact range_word _

theorem wrap1_apply (v : IVec S1024 32) (hv : ∀ b, v (ix1 b) = BitVec.ofNat 32 (σ b).val) (b : Fin 1024) :
    wrap1 v (ix2 b 0) = BitVec.ofNat 32 (σ b).val := by
  pointwise [wrap1]
  rw [hv]; exact wrap_word _

theorem inRange1_apply (v : IVec S1024x1 32) (hv : ∀ b, v (ix2 b 0) = BitVec.ofNat 32 (σ b).val) (b : Fin 1024) :
    inRange1 v (ix2 b 0) = 1#1 := by
  pointwise [inRange1]
  rw [hv]; exact range_word _

/-- The gather of the projections reads the indexed expert. -/
theorem gatherP_apply (p : FVec Ideal S1024x8x16 .f32) (v : IVec S1024x1x1 32)
    (hv : ∀ b, v (ix3 b 0 0) = BitVec.ofNat 32 (σ b).val) (b : Fin 1024) (r : Fin 16) :
    Host.gather gather_S1024x8x16_S1024x1x1_S1024x1x16_2_1_0_0_1_2_1116 p v (ix3 b 0 r) = p (ix3 b (σ b) r) := by
  unfold Host.gather
  refine congrArg p (funext fun a => Fin.ext ?_)
  have hs := (σ b).isLt
  have e0 : ∀ X : Fin 3, X = 0 → (ix3 b (0 : Fin 1) r X).val = b.val := fun X h => by subst h; rfl
  have e2 : ∀ X : Fin 3, X = 2 → (ix3 b (0 : Fin 1) r X).val = r.val := fun X h => by subst h; rfl
  match a with
  | ⟨0, _⟩ =>
    show gather_S1024x8x16_S1024x1x1_S1024x1x16_2_1_0_0_1_2_1116.start (ix3 b 0 r) v 0 + gather_S1024x8x16_S1024x1x1_S1024x1x16_2_1_0_0_1_2_1116.batchCoord (ix3 b 0 r) 0
        + gather_S1024x8x16_S1024x1x1_S1024x1x16_2_1_0_0_1_2_1116.offCoord (ix3 b 0 r) 0 = b.val
    rw [GatherDims.start_batching _ _ _ _ (by decide), GatherDims.offCoord_eq_zero _ _ _ (by decide), Nat.zero_add, Nat.add_zero]
    unfold GatherDims.batchCoord
    rw [dif_pos (by decide)]
    exact e0 _ (by decide)
  | ⟨1, _⟩ =>
    show gather_S1024x8x16_S1024x1x1_S1024x1x16_2_1_0_0_1_2_1116.start (ix3 b 0 r) v 1 + gather_S1024x8x16_S1024x1x1_S1024x1x16_2_1_0_0_1_2_1116.batchCoord (ix3 b 0 r) 1
        + gather_S1024x8x16_S1024x1x1_S1024x1x16_2_1_0_0_1_2_1116.offCoord (ix3 b 0 r) 1 = (σ b).val
    rw [GatherDims.batchCoord_eq_zero _ _ _ (by decide), GatherDims.offCoord_eq_zero _ _ _ (by decide), Nat.add_zero]
    unfold GatherDims.start
    rw [dif_pos (by decide)]
    have hsi : ∀ c, gather_S1024x8x16_S1024x1x1_S1024x1x16_2_1_0_0_1_2_1116.siIdx (ix3 b 0 r) c = ix3 b (0 : Fin 1) (0 : Fin 1) := by
      intro c
      funext k
      match k with
      | ⟨0, _⟩ =>
        apply Fin.ext
        unfold GatherDims.siIdx
        split
        · rename_i h
          exact absurd h (show ¬ (0 : ℕ) = 2 by decide)
        · exact e0 _ (by decide +revert)
      | ⟨1, _⟩ => exact Subsingleton.elim (α := Fin 1) _ _
      | ⟨2, _⟩ => exact Subsingleton.elim (α := Fin 1) _ _
    rw [hsi, hv, toInt_word]
    show min ((σ b).val : Int).toNat (8 - 1) = (σ b).val
    omega
  | ⟨2, _⟩ =>
    show gather_S1024x8x16_S1024x1x1_S1024x1x16_2_1_0_0_1_2_1116.start (ix3 b 0 r) v 2 + gather_S1024x8x16_S1024x1x1_S1024x1x16_2_1_0_0_1_2_1116.batchCoord (ix3 b 0 r) 2
        + gather_S1024x8x16_S1024x1x1_S1024x1x16_2_1_0_0_1_2_1116.offCoord (ix3 b 0 r) 2 = r.val
    rw [GatherDims.batchCoord_eq_zero _ _ _ (by decide), Nat.add_zero]
    unfold GatherDims.start GatherDims.offCoord
    rw [dif_neg (by decide), dif_pos (by decide), Nat.zero_add]
    exact e2 _ (by decide)

/-- The gather of the tables reads the indexed expert. -/
theorem gatherU_apply (u : FVec Ideal S8x768x16 .f32) (v : IVec S1024x1 32)
    (hv : ∀ b, v (ix2 b 0) = BitVec.ofNat 32 (σ b).val) (b : Fin 1024) (d : Fin 768) (r : Fin 16) :
    Host.gather gather_S8x768x16_S1024x1_S1024x768x16_12_0_n_n_0_1_176816 u v (ix3 b d r) = u (ix3 (σ b) d r) := by
  unfold Host.gather
  refine congrArg u (funext fun a => Fin.ext ?_)
  have hs := (σ b).isLt
  have e0 : ∀ X : Fin 3, X = 0 → (ix3 b d r X).val = b.val := fun X h => by subst h; rfl
  have e1 : ∀ X : Fin 3, X = 1 → (ix3 b d r X).val = d.val := fun X h => by subst h; rfl
  have e2 : ∀ X : Fin 3, X = 2 → (ix3 b d r X).val = r.val := fun X h => by subst h; rfl
  match a with
  | ⟨0, _⟩ =>
    show gather_S8x768x16_S1024x1_S1024x768x16_12_0_n_n_0_1_176816.start (ix3 b d r) v 0 + gather_S8x768x16_S1024x1_S1024x768x16_12_0_n_n_0_1_176816.batchCoord (ix3 b d r) 0
        + gather_S8x768x16_S1024x1_S1024x768x16_12_0_n_n_0_1_176816.offCoord (ix3 b d r) 0 = (σ b).val
    rw [GatherDims.batchCoord_eq_zero _ _ _ (by decide), GatherDims.offCoord_eq_zero _ _ _ (by decide), Nat.add_zero]
    unfold GatherDims.start
    rw [dif_pos (by decide)]
    have hsi : ∀ c, gather_S8x768x16_S1024x1_S1024x768x16_12_0_n_n_0_1_176816.siIdx (ix3 b d r) c = ix2 b (0 : Fin 1) := by
      intro c
      funext k
      match k with
      | ⟨0, _⟩ =>
        apply Fin.ext
        unfold GatherDims.siIdx
        split
        · rename_i h
          exact absurd h (show ¬ (0 : ℕ) = 1 by decide)
        · exact e0 _ (by decide +revert)
      | ⟨1, _⟩ => exact Subsingleton.elim (α := Fin 1) _ _
    rw [hsi, hv, toInt_word]
    show min ((σ b).val : Int).toNat (8 - 1) = (σ b).val
    omega
  | ⟨1, _⟩ =>
    show gather_S8x768x16_S1024x1_S1024x768x16_12_0_n_n_0_1_176816.start (ix3 b d r) v 1 + gather_S8x768x16_S1024x1_S1024x768x16_12_0_n_n_0_1_176816.batchCoord (ix3 b d r) 1
        + gather_S8x768x16_S1024x1_S1024x768x16_12_0_n_n_0_1_176816.offCoord (ix3 b d r) 1 = d.val
    rw [GatherDims.batchCoord_eq_zero _ _ _ (by decide), Nat.add_zero]
    unfold GatherDims.start GatherDims.offCoord
    rw [dif_neg (by decide), dif_pos (by decide), Nat.zero_add]
    exact e1 _ (by decide)
  | ⟨2, _⟩ =>
    show gather_S8x768x16_S1024x1_S1024x768x16_12_0_n_n_0_1_176816.start (ix3 b d r) v 2 + gather_S8x768x16_S1024x1_S1024x768x16_12_0_n_n_0_1_176816.batchCoord (ix3 b d r) 2
        + gather_S8x768x16_S1024x1_S1024x768x16_12_0_n_n_0_1_176816.offCoord (ix3 b d r) 2 = r.val
    rw [GatherDims.batchCoord_eq_zero _ _ _ (by decide), Nat.add_zero]
    unfold GatherDims.start GatherDims.offCoord
    rw [dif_neg (by decide), dif_pos (by decide), Nat.zero_add]
    exact e2 _ (by decide)

/-- Taking at the chosen expert reads its projections. -/
theorem takeP_apply (p : FVec Ideal S1024x8x16 .f32) (v : IVec S1024x1x1 32)
    (hv : ∀ b, v (ix3 b 0 0) = BitVec.ofNat 32 (σ b).val) (b : Fin 1024) (r : Fin 16) :
    takeP p v (ix3 b 0 r) = p (ix3 b (σ b) r) := by
  have hw := wrap3_apply σ v hv
  have hm : Host.reduce IntOp.andi (inRange3 (wrap3 v)) (constantI S_ 1 1#1) reducesTo_S1024x1x1_S1024x1_d2 h_S_ = fun _ => 1#1 :=
    funext fun j => Host.reduce_andi_one _ _ _ _ _ rfl fun i => by
      idx_vars i
      rw [Subsingleton.elim i1 0, Subsingleton.elim i2 0]
      exact inRange3_apply σ _ hw _
  have hg := gatherP_apply σ p (wrap3 v) hw b r
  unfold takeP
  rw [hm]
  exact hg

/-- Taking at the chosen expert reads its table. -/
theorem takeU_apply (u : FVec Ideal S8x768x16 .f32) (v : IVec S1024 32)
    (hv : ∀ b, v (ix1 b) = BitVec.ofNat 32 (σ b).val) (b : Fin 1024) (d : Fin 768) (r : Fin 16) :
    takeU u v (ix3 b d r) = u (ix3 (σ b) d r) := by
  have hw := wrap1_apply σ v hv
  have hm : Host.reduce IntOp.andi (inRange1 (wrap1 v)) (constantI S_ 1 1#1) reducesTo_S1024x1_S1024_d1 h_S_ = fun _ => 1#1 :=
    funext fun j => Host.reduce_andi_one _ _ _ _ _ rfl fun i => by
      idx_vars i
      rw [Subsingleton.elim i1 0]
      exact inRange1_apply σ _ hw _
  have hg := gatherU_apply σ u (wrap1 v) hw b d r
  unfold takeU
  rw [hm]
  exact hg

end Cert.ReferenceIdeal.Hand
-- ==== Proof.RefMath.lean ====
/- One layer of the reference as functions of whole arrays, and each of them read at one position in the words of the
   row-wise specification. Hand-written. -/
module

public import proofs.«01_k».proof.Proof.RefTake

@[expose] public section

set_option maxRecDepth 16384

noncomputable section

namespace Cert.ReferenceIdeal.Hand

open Idealize.ShloMosaic Idealize.SL.Sem
open Cert.ReferenceIdeal Cert.ReferenceIdeal.Gen

/-- The projections onto every expert's directions. -/
def projV (x : FVec Ideal S1024x768 .f32) (v : FVec Ideal S8x16x768 .f32) : FVec Ideal S1024x8x16 .f32 :=
  Host.dotGeneral dot_S1024x768_S8x16x768_S1024x8x16_1_2_0_01_n_n none x v

/-- Their lengths, per expert. -/
def scoreV (p : FVec Ideal S1024x8x16 .f32) : FVec Ideal S1024x8 .f32 :=
  Host.sqrt (addf (Host.reduceAdd (mulf p p) (constant S_ .f32 0x00000000#32) reducesTo_S1024x8x16_S1024x8_d2 h_S_)
    (broadcastInDim S1024x8 ![] bcast_S_S1024x8 (constant S_ .f32 0x2B8CBCCC#32)))

/-- The first greatest of eight, for each row. -/
def argV (s : FVec Ideal S1024x8 .f32) : IVec S1024 32 := fun j =>
  (Host.argReduce reducer_argmax_f32_i32 s (iotaInDim S1024x8 32 1) (constant S_ .f32 0xFF800000#32) (constantI S_ 32 0#32)
    reducesTo_S1024x8_S1024_d1 h_S_ j).2

/-- The layer's plain matrix product. -/
def baseV (x : FVec Ideal S1024x768 .f32) (w : FVec Ideal S768x768 .f32) : FVec Ideal S1024x768 .f32 :=
  Host.dotGeneral dot_S1024x768_S768x768_S1024x768_1_0_0_1_n_n none x (transpose S768x768 [1, 0] w transposes_S768x768_S768x768_1_0)

/-- Each row's sixteen numbers applied to the row's own table. -/
def mixV (a : FVec Ideal S1024x16 .f32) (t : FVec Ideal S1024x768x16 .f32) : FVec Ideal S1024x768 .f32 :=
  Host.dotGeneral dot_S1024x16_S1024x768x16_S1024x768_1_2_n_1_0_0 none a t

/-- The chosen expert's contribution. -/
def residV (p : FVec Ideal S1024x8x16 .f32) (s : IVec S1024 32) (u : FVec Ideal S8x768x16 .f32) : FVec Ideal S1024x768 .f32 :=
  mixV
    (shapeCast S1024x16 (takeP p (broadcastInDim S1024x1x1 ![0] bcast_S1024_S1024x1x1_0 s)) shapeCasts_S1024x1x16_S1024x16)
    (takeU u s)

/-- The chosen places of a layer. -/
def selV (x : FVec Ideal S1024x768 .f32) (v : FVec Ideal S8x16x768 .f32) : IVec S1024 32 := argV (scoreV (projV x v))

/-- A layer's features. -/
def featV (x : FVec Ideal S1024x768 .f32) (w : FVec Ideal S768x768 .f32) (v : FVec Ideal S8x16x768 .f32) (u : FVec Ideal S8x768x16 .f32) :
    FVec Ideal S1024x768 .f32 :=
  addf (baseV x w) (residV (projV x v) (selV x v) u)

/-- A number repeated over the features' shape. -/
def all (k : BitVec 32) : FVec Ideal S1024x768 .f32 := broadcastInDim S1024x768 ![] bcast_S_S1024x768 (constant S_ .f32 k)

/-- The activation. -/
def geluV (y : FVec Ideal S1024x768 .f32) : FVec Ideal S1024x768 .f32 :=
  mulf y (mulf (all 0x3F000000#32) (addf (all 0x3F800000#32)
    (Host.tanh (mulf (all 0x3F4C422A#32)
      (addf y (mulf (all 0x3D372713#32) (mulf (mulf y y) y)))))))

theorem projV_apply (x : FVec Ideal S1024x768 .f32) (v : FVec Ideal S8x16x768 .f32) (b : Fin 1024) (t : Fin 8) (r : Fin 16) :
    projV x v (ix3 b t r) = Spec.proj (fun d => x (ix2 b d)) (fun t r d => v (ix3 t r d)) t r := by
  pointwise [projV]
  rfl

theorem scoreV_apply (p : FVec Ideal S1024x8x16 .f32) (b : Fin 1024) (t : Fin 8) :
    scoreV p (ix2 b t) = Ideal.sqrt ((∑ r, p (ix3 b t r) * p (ix3 b t r)) + Ideal.ofBits .f32 0x2B8CBCCC#32) := by
  pointwise [scoreV]

theorem baseV_apply (x : FVec Ideal S1024x768 .f32) (w : FVec Ideal S768x768 .f32) (b : Fin 1024) (d : Fin 768) :
    baseV x w (ix2 b d) = ∑ k, x (ix2 b k) * w (ix2 d k) := by
  pointwise [baseV]
  try rfl

theorem residV_apply (p : FVec Ideal S1024x8x16 .f32) (s : IVec S1024 32) (u : FVec Ideal S8x768x16 .f32) (σ : Fin 1024 → Fin 8)
    (hs : ∀ b, s (ix1 b) = BitVec.ofNat 32 (σ b).val) (b : Fin 1024) (d : Fin 768) :
    residV p s u (ix2 b d) = ∑ r, p (ix3 b (σ b) r) * u (ix3 (σ b) d r) := by
  have hP := takeP_apply σ p (broadcastInDim S1024x1x1 ![0] bcast_S1024_S1024x1x1_0 s) (fun b => by pointwise; exact hs b)
  have hU := takeU_apply σ u s hs
  unfold residV mixV
  generalize takeP p _ = P at hP
  generalize takeU u s = U at hU
  pointwise
  exact Finset.sum_congr rfl fun r _ => by rw [← hP, ← hU]

theorem geluV_apply (y : FVec Ideal S1024x768 .f32) (b : Fin 1024) (d : Fin 768) : geluV y (ix2 b d) = Spec.gelu (y (ix2 b d)) := by
  pointwise [geluV, all]
  rw [mul_comm (y (ix2 b d) * y (ix2 b d)) (y (ix2 b d))]
  rfl

/-- The small positive number added under the root. -/
theorem eps_real : ∃ e : ℝ, 0 < e ∧ Ideal.ofBits FTy.f32 0x2B8CBCCC#32 = (e : EReal) := by
  simp [Ideal.ofBits, Ideal.ieee]
  exact ⟨9223372 * (2 ^ 63)⁻¹, by positivity, (EReal.coe_mul _ _).symm⟩

theorem sqrt_coe (r : ℝ) (h : 0 ≤ r) : Ideal.sqrt ((r : ℝ) : EReal) = ((Real.sqrt r : ℝ) : EReal) := by
  show (if r < 0 then (⊥ : EReal) else ((Real.sqrt r : ℝ) : EReal)) = _
  rw [if_neg (not_lt.mpr h)]

/-- The root of a sum with a positive number is strictly increasing on the nonnegative numbers. -/
theorem sqrt_lt (e : ℝ) (he : 0 < e) (x y : EReal) (hx : 0 ≤ x) (h : x < y) :
    Ideal.sqrt (x + (e : EReal)) < Ideal.sqrt (y + (e : EReal)) := by
  induction x using EReal.rec with
  | bot => exact absurd hx (by simp)
  | top => exact absurd h not_top_lt
  | coe r =>
    have hr : 0 ≤ r := EReal.coe_nonneg.mp hx
    rw [← EReal.coe_add, sqrt_coe _ (by linarith)]
    induction y using EReal.rec with
    | bot => exact absurd h not_lt_bot
    | top =>
      rw [EReal.top_add_coe]
      exact EReal.coe_lt_top _
    | coe q =>
      have hq : r < q := EReal.coe_lt_coe_iff.mp h
      rw [← EReal.coe_add, sqrt_coe _ (by linarith), EReal.coe_lt_coe_iff]
      exact Real.sqrt_lt_sqrt (by linarith) (by linarith)

/-- A square is not negative. -/
theorem square_nonneg (x : EReal) : 0 ≤ x * x := by
  rcases le_total 0 x with h | h
  · exact mul_nonneg h h
  · rw [← neg_mul_neg]
    have h' : 0 ≤ -x := EReal.neg_nonneg.mpr h
    exact mul_nonneg h' h'

/-- A routing score is not negative. -/
theorem score_nonneg (x : Fin 768 → EReal) (v : Fin 8 → Fin 16 → Fin 768 → EReal) (t : Fin 8) : 0 ≤ Spec.score x v t :=
  Finset.sum_nonneg fun r _ => square_nonneg _

/-- The place the reference chooses for a row is the specification's. -/
theorem selV_apply (x : FVec Ideal S1024x768 .f32) (v : FVec Ideal S8x16x768 .f32) (b : Fin 1024) :
    selV x v (ix1 b) = BitVec.ofNat 32 (Spec.sel (fun d => x (ix2 b d)) (fun t r d => v (ix3 t r d))).val := by
  obtain ⟨e, he, hE⟩ := eps_real
  refine (argmax_apply (scoreV (projV x v)) b).trans (congrArg (fun t : Fin 8 => BitVec.ofNat 32 t.val) ?_)
  refine Eq.trans ?_ (Spec.pick_comp (fun s => Ideal.sqrt (s + (e : EReal))) (Spec.score (fun d => x (ix2 b d)) (fun t r d => v (ix3 t r d)))
    fun p q h => sqrt_lt e he _ _ (score_nonneg _ _ p) h)
  refine congrArg Spec.pick (funext fun t => ?_)
  rw [scoreV_apply, hE]
  simp only [projV_apply]
  rfl

/-- The features at one position. -/
theorem featV_apply (x : FVec Ideal S1024x768 .f32) (w : FVec Ideal S768x768 .f32) (v : FVec Ideal S8x16x768 .f32)
    (u : FVec Ideal S8x768x16 .f32) (b : Fin 1024) (d : Fin 768) :
    featV x w v u (ix2 b d) = Spec.feat (fun k => x (ix2 b k)) (fun d k => w (ix2 d k)) (fun t r d => v (ix3 t r d))
      (fun t d r => u (ix3 t d r)) d := by
  refine (congrArg₂ (· + ·) (baseV_apply x w b d) (residV_apply (projV x v) (selV x v) u _ (selV_apply x v) b d)).trans ?_
  simp only [projV_apply]
  rfl

end Cert.ReferenceIdeal.Hand
-- ==== Proof.RefBody.lean ====
/- What each stretch of the reference's loop body leaves in the buffers the later ones read. Hand-written. -/
module

public import proofs.«01_k».proof.Proof.RefMath

@[expose] public section

set_option maxRecDepth 100000

noncomputable section

namespace Cert.ReferenceIdeal.Hand

open Idealize.ShloMosaic Idealize.ShloMosaic.TcCoe Idealize.ShloMosaic.Tactic
open Idealize.SL.Sem
open Idealize.ShloMosaic.StableHlo
open Cert.ReferenceIdeal Cert.ReferenceIdeal.Gen Cert.ReferenceIdeal.Value

/-- A buffer's contents in a valuation. -/
def rd (X : Valuation τ sig (Elt Ideal)) (b : Ref sig .tc) : (Proc.devRef (τ := τ) .tc b).ty.Contents (Elt Ideal) := X (Proc.devRef .tc b)

/-- Where a slice of a stack of matrices starts: at the counter's layer. -/
def at3 (n : IVec S_ 32) : Fin 3 → Int := fun k => ((![n, constantI S_ 32 0#32, constantI S_ 32 0#32] : Fin 3 → IVec S_ 32) k (Shape.Idx.first h_S_)).toInt
/-- The same for a stack of tables. -/
def at4 (n : IVec S_ 32) : Fin 4 → Int :=
  fun k => ((![n, constantI S_ 32 0#32, constantI S_ 32 0#32, constantI S_ 32 0#32] : Fin 4 → IVec S_ 32) k (Shape.Idx.first h_S_)).toInt
/-- The same for the rows of votes. -/
def at2 (n : IVec S_ 32) : Fin 2 → Int := fun k => ((![n, constantI S_ 32 0#32] : Fin 2 → IVec S_ 32) k (Shape.Idx.first h_S_)).toInt

/-- The counter's matrix of a stack. -/
def sliceW (w : FVec Ideal S11x768x768 .f32) (n : IVec S_ 32) : FVec Ideal S768x768 .f32 :=
  shapeCast S768x768 (Host.dynamicSlice S1x768x768 w (at3 n) sliceFits_S11x768x768_S1x768x768) shapeCasts_S1x768x768_S768x768
/-- The counter's directions of a stack. -/
def sliceV (v : FVec Ideal S11x8x16x768 .f32) (n : IVec S_ 32) : FVec Ideal S8x16x768 .f32 :=
  shapeCast S8x16x768 (Host.dynamicSlice S1x8x16x768 v (at4 n) sliceFits_S11x8x16x768_S1x8x16x768) shapeCasts_S1x8x16x768_S8x16x768
/-- The counter's tables of a stack. -/
def sliceU (u : FVec Ideal S11x8x768x16 .f32) (n : IVec S_ 32) : FVec Ideal S8x768x16 .f32 :=
  shapeCast S8x768x16 (Host.dynamicSlice S1x8x768x16 u (at4 n) sliceFits_S11x8x768x16_S1x8x768x16) shapeCasts_S1x8x768x16_S8x768x16
/-- The votes with the counter's row written. -/
def putVote (y : IVec S11x1024 32) (s : IVec S1024 32) (n : IVec S_ 32) : IVec S11x1024 32 :=
  Host.dynamicUpdateSlice y (broadcastInDim S1x1024 ![1] bcast_S1024_S1x1024_1 s) (at2 n) updateFits_S11x1024_S1x1024

variable (X : Valuation τ sig (Elt Ideal))

/-- The two zeros that stretch writes first. -/
abbrev zeros0 : List (HloOp τ sig (Elt Ideal)) :=
  [StableHlo.nullary main_while0b_call0_c (constantI S_ 32 0#32 : IVec S_ 32), StableHlo.nullary main_while0b_call0_c_0 (constantI S_ 32 0#32 : IVec S_ 32)]
theorem b0_37 : rd (after while0Ops0 X) main_while0b_v37 = sliceW (rd X main_v4_0) (rd X main_v4_3) := by
  unfold rd
  after_results
  refine (congrArg (fun i : Fin 3 → IVec S_ 32 => (shapeCast S768x768 (Host.dynamicSlice S1x768x768 (rd X main_v4_0 : FVec Ideal S11x768x768 .f32)
    (fun k => (i k (Shape.Idx.first h_S_)).toInt) sliceFits_S11x768x768_S1x768x768) shapeCasts_S1x768x768_S768x768 : FVec Ideal S768x768 .f32))
    (?_ : _ = (![rd X main_v4_3, constantI S_ 32 0#32, constantI S_ 32 0#32] : Fin 3 → IVec S_ 32)))
  funext k
  match k with
  | ⟨0, _⟩ =>
    show after zeros0 X (Proc.devRef .tc main_v4_3) = _
    after_results
    rfl
  | ⟨1, _⟩ =>
    show after zeros0 X (Proc.devRef .tc main_while0b_call0_c) = _
    after_results
    rfl
  | ⟨2, _⟩ =>
    show after zeros0 X (Proc.devRef .tc main_while0b_call0_c_0) = _
    after_results
    rfl
/-- The three zeros that stretch writes first. -/
abbrev zeros1 : List (HloOp τ sig (Elt Ideal)) :=
  [StableHlo.nullary main_while0b_call1_c (constantI S_ 32 0#32 : IVec S_ 32), StableHlo.nullary main_while0b_call1_c_0 (constantI S_ 32 0#32 : IVec S_ 32),
    StableHlo.nullary main_while0b_call1_c_1 (constantI S_ 32 0#32 : IVec S_ 32)]
theorem b1_38 : rd (after while0Ops0_1 X) main_while0b_v38 = sliceV (rd X main_v4_1) (rd X main_v4_3) := by
  unfold rd
  after_results
  refine (congrArg (fun i : Fin 4 → IVec S_ 32 => (shapeCast S8x16x768 (Host.dynamicSlice S1x8x16x768 (rd X main_v4_1 : FVec Ideal S11x8x16x768 .f32)
    (fun k => (i k (Shape.Idx.first h_S_)).toInt) sliceFits_S11x8x16x768_S1x8x16x768) shapeCasts_S1x8x16x768_S8x16x768 : FVec Ideal S8x16x768 .f32))
    (?_ : _ = (![rd X main_v4_3, constantI S_ 32 0#32, constantI S_ 32 0#32, constantI S_ 32 0#32] : Fin 4 → IVec S_ 32)))
  funext k
  match k with
  | ⟨0, _⟩ =>
    show after zeros1 X (Proc.devRef .tc main_v4_3) = _
    after_results
    rfl
  | ⟨1, _⟩ =>
    show after zeros1 X (Proc.devRef .tc main_while0b_call1_c) = _
    after_results
    rfl
  | ⟨2, _⟩ =>
    show after zeros1 X (Proc.devRef .tc main_while0b_call1_c_0) = _
    after_results
    rfl
  | ⟨3, _⟩ =>
    show after zeros1 X (Proc.devRef .tc main_while0b_call1_c_1) = _
    after_results
    rfl
/-- The three zeros that stretch writes first. -/
abbrev zeros2 : List (HloOp τ sig (Elt Ideal)) :=
  [StableHlo.nullary main_while0b_call2_c (constantI S_ 32 0#32 : IVec S_ 32), StableHlo.nullary main_while0b_call2_c_0 (constantI S_ 32 0#32 : IVec S_ 32),
    StableHlo.nullary main_while0b_call2_c_1 (constantI S_ 32 0#32 : IVec S_ 32)]
theorem b2_39 : rd (after while0Ops0_2 X) main_while0b_v39 = sliceU (rd X main_v4_2) (rd X main_v4_3) := by
  unfold rd
  after_results
  refine (congrArg (fun i : Fin 4 → IVec S_ 32 => (shapeCast S8x768x16 (Host.dynamicSlice S1x8x768x16 (rd X main_v4_2 : FVec Ideal S11x8x768x16 .f32)
    (fun k => (i k (Shape.Idx.first h_S_)).toInt) sliceFits_S11x8x768x16_S1x8x768x16) shapeCasts_S1x8x768x16_S8x768x16 : FVec Ideal S8x768x16 .f32))
    (?_ : _ = (![rd X main_v4_3, constantI S_ 32 0#32, constantI S_ 32 0#32, constantI S_ 32 0#32] : Fin 4 → IVec S_ 32)))
  funext k
  match k with
  | ⟨0, _⟩ =>
    show after zeros2 X (Proc.devRef .tc main_v4_3) = _
    after_results
    rfl
  | ⟨1, _⟩ =>
    show after zeros2 X (Proc.devRef .tc main_while0b_call2_c) = _
    after_results
    rfl
  | ⟨2, _⟩ =>
    show after zeros2 X (Proc.devRef .tc main_while0b_call2_c_0) = _
    after_results
    rfl
  | ⟨3, _⟩ =>
    show after zeros2 X (Proc.devRef .tc main_while0b_call2_c_1) = _
    after_results
    rfl
theorem b3_40 : rd (after while0Ops0_3 X) main_while0b_v40 = projV (rd X main_v4_4) (rd X main_while0b_v38) := by
  unfold rd
  after_results
  rfl
theorem b3_45 : rd (after while0Ops0_3 X) main_while0b_v45 = scoreV (projV (rd X main_v4_4) (rd X main_while0b_v38)) := by
  unfold rd
  after_results
  rfl
theorem b4_46 : rd (after while0Ops0_4 X) main_while0b_v46 = argV (rd X main_while0b_v45) := by
  unfold rd
  after_results
  rfl
theorem b5_48 : rd (after while0Ops0_5 X) main_while0b_v48 = baseV (rd X main_v4_4) (rd X main_while0b_v37) := by
  unfold rd
  after_results
  rfl
theorem b5_49 : rd (after while0Ops0_5 X) main_while0b_v49 = broadcastInDim S1024x1x1 ![0] bcast_S1024_S1024x1x1_0 (rd X main_while0b_v46) := by
  unfold rd
  after_results
theorem b6_50 : rd (after while0Ops0_6 X) main_while0b_v50 = takeP (rd X main_while0b_v40) (rd X main_while0b_v49) := by
  unfold rd
  after_results
  rfl
theorem b7_51 : rd (after while0Ops0_7 X) main_while0b_v51 = shapeCast S1024x16 (rd X main_while0b_v50) shapeCasts_S1024x1x16_S1024x16 := by
  unfold rd
  after_results
  rfl
theorem b8_52 : rd (after while0Ops0_8 X) main_while0b_v52 = takeU (rd X main_while0b_v39) (rd X main_while0b_v46) := by
  unfold rd
  after_results
  rfl
theorem b9_67 : rd (after while0Ops0_9 X) main_while0b_v67 = geluV (addf (F := Ideal) (φ := .f32) (rd X main_while0b_v48)
    (mixV (rd X main_while0b_v51) (rd X main_while0b_v52))) := by
  unfold rd
  after_results
  rfl
/-- The row of votes and the zero that stretch writes first. -/
abbrev rowStart : List (HloOp τ sig (Elt Ideal)) :=
  [StableHlo.unary main_while0b_v46 main_while0b_call6_v0 (broadcastInDim S1x1024 ![1] bcast_S1024_S1x1024_1 : IVec S1024 32 → IVec S1x1024 32),
    StableHlo.nullary main_while0b_call6_c (constantI S_ 32 0#32 : IVec S_ 32)]
theorem b10_68 : rd (after while0Ops0_10 X) main_while0b_v68 = putVote (rd X main_v4_5) (rd X main_while0b_v46) (rd X main_v4_3) := by
  unfold rd
  after_results
  refine (congrArg (fun i : Fin 2 → IVec S_ 32 => (Host.dynamicUpdateSlice (rd X main_v4_5 : IVec S11x1024 32)
    (broadcastInDim S1x1024 ![1] bcast_S1024_S1x1024_1 (rd X main_while0b_v46 : IVec S1024 32))
    (fun k => (i k (Shape.Idx.first h_S_)).toInt) updateFits_S11x1024_S1x1024 : IVec S11x1024 32))
    (?_ : _ = (![rd X main_v4_3, constantI S_ 32 0#32] : Fin 2 → IVec S_ 32)))
  funext k
  match k with
  | ⟨0, _⟩ =>
    show after rowStart X (Proc.devRef .tc main_v4_3) = _
    after_results
    rfl
  | ⟨1, _⟩ =>
    show after rowStart X (Proc.devRef .tc main_while0b_call6_c) = _
    after_results
    rfl
theorem b11_4 : rd (after while0Ops0_11 X) main_v4_4 = rd X main_while0b_v67 := by
  unfold rd
  after_results
  rfl
theorem b11_5 : rd (after while0Ops0_11 X) main_v4_5 = rd X main_while0b_v68 := by
  unfold rd
  after_results
  rfl

end Cert.ReferenceIdeal.Hand
-- ==== Proof.RefTail.lean ====
/- What each stretch of the reference after its loop leaves in the buffers the later ones read: the last layer, the count
   of the votes, the heads and the result. Hand-written. -/
module

public import proofs.«01_k».proof.Proof.RefBody

@[expose] public section

set_option maxRecDepth 100000

noncomputable section

namespace Cert.ReferenceIdeal.Hand

open Idealize.ShloMosaic Idealize.ShloMosaic.TcCoe Idealize.ShloMosaic.Tactic
open Idealize.SL.Sem
open Idealize.ShloMosaic.StableHlo
open Cert.ReferenceIdeal Cert.ReferenceIdeal.Gen Cert.ReferenceIdeal.Value

/-- The last layer's matrix. -/
def lastW (w : FVec Ideal S12x768x768 .f32) : FVec Ideal S768x768 .f32 :=
  shapeCast S768x768 (extractStridedSlice S1x768x768 ![11, 0, 0] w slices_S12x768x768_S1x768x768_11_0_0) shapeCasts_S1x768x768_S768x768
/-- The last layer's directions. -/
def lastV (v : FVec Ideal S12x8x16x768 .f32) : FVec Ideal S8x16x768 .f32 :=
  shapeCast S8x16x768 (extractStridedSlice S1x8x16x768 ![11, 0, 0, 0] v slices_S12x8x16x768_S1x8x16x768_11_0_0_0) shapeCasts_S1x8x16x768_S8x16x768
/-- The last layer's tables. -/
def lastU (u : FVec Ideal S12x8x768x16 .f32) : FVec Ideal S8x768x16 .f32 :=
  shapeCast S8x768x16 (extractStridedSlice S1x8x768x16 ![11, 0, 0, 0] u slices_S12x8x768x16_S1x8x768x16_11_0_0_0) shapeCasts_S1x8x768x16_S8x768x16

/-- All twelve rows of votes. -/
def allVotes (y : IVec S11x1024 32) (s : IVec S1024 32) : IVec S12x1024 32 :=
  concatenate S12x1024 0 [⟨S11x1024, y⟩, ⟨S1x1024, broadcastInDim S1x1024 ![1] bcast_S1024_S1x1024_1 s⟩] concatenates_S11x1024_S1x1024_S12x1024_d0

/-- Each vote marked at its place. -/
def hotV (z : IVec S12x1024 32) : FVec Ideal S12x1024x8 .f32 :=
  uitofp .f32 (cmpi .eq
    (broadcastInDim S12x1024x8 ![0, 1, 2] bcast_S12x1024x1_S12x1024x8_0_1_2 (broadcastInDim S12x1024x1 ![0, 1] bcast_S12x1024_S12x1024x1_0_1 z))
    (broadcastInDim S12x1024x8 ![0, 1, 2] bcast_S1x1x8_S12x1024x8_0_1_2 (iotaInDim S1x1x8 32 2)))

/-- The marks counted. -/
def countV (h : FVec Ideal S12x1024x8 .f32) : FVec Ideal S1024x8 .f32 :=
  Host.reduceAdd h (constant (F := Ideal) S_ .f32 0x00000000#32) reducesTo_S12x1024x8_S1024x8_d0 h_S_

/-- Every head applied to the features. -/
def headV (f : FVec Ideal S1024x768 .f32) (hw : FVec Ideal S8x100x768 .f32) (hb : FVec Ideal S8x100 .f32) : FVec Ideal S1024x8x100 .f32 :=
  addf (Host.dotGeneral dot_S1024x768_S8x100x768_S1024x8x100_1_2_0_01_n_n none f hw)
    (broadcastInDim S1024x8x100 ![0, 1, 2] bcast_S1x8x100_S1024x8x100_0_1_2 (broadcastInDim S1x8x100 ![1, 2] bcast_S8x100_S1x8x100_1_2 hb))

/-- The winner marked at its place. -/
def hot1 (s : IVec S1024 32) : FVec Ideal S1024x8 .f32 :=
  uitofp .f32 (cmpi .eq
    (broadcastInDim S1024x8 ![0, 1] bcast_S1024x1_S1024x8_0_1 (broadcastInDim S1024x1 ![0] bcast_S1024_S1024x1_0 s))
    (broadcastInDim S1024x8 ![0, 1] bcast_S1x8_S1024x8_0_1 (iotaInDim S1x8 32 1)))

/-- The marked head. -/
def finV (h : FVec Ideal S1024x8 .f32) (g : FVec Ideal S1024x8x100 .f32) : FVec Ideal S1024x100 .f32 :=
  Host.dotGeneral dot_S1024x8_S1024x8x100_S1024x100_1_1_n_2_0_0 none h g

variable (X : Valuation τ sig (Elt Ideal))

theorem p1_6 : rd (after hostOps0_1 X) main_v6 = lastW (rd X main_arg1) := by
  unfold rd
  after_results
  rfl
theorem p1_8 : rd (after hostOps0_1 X) main_v8 = lastV (rd X main_arg2) := by
  unfold rd
  after_results
  rfl
theorem p1_10 : rd (after hostOps0_1 X) main_v10 = lastU (rd X main_arg3) := by
  unfold rd
  after_results
  rfl
theorem p1_11 : rd (after hostOps0_1 X) main_v11 = projV (rd X main_v4_4) (lastV (rd X main_arg2)) := by
  unfold rd
  after_results
  rfl
theorem p1_16 : rd (after hostOps0_1 X) main_v16 = scoreV (projV (rd X main_v4_4) (lastV (rd X main_arg2))) := by
  unfold rd
  after_results
  rfl
theorem p2_17 : rd (after hostOps0_2 X) main_v17 = argV (rd X main_v16) := by
  unfold rd
  after_results
  rfl
theorem p3_19 : rd (after hostOps0_3 X) main_v19 = baseV (rd X main_v4_4) (rd X main_v6) := by
  unfold rd
  after_results
  rfl
theorem p3_20 : rd (after hostOps0_3 X) main_v20 = broadcastInDim S1024x1x1 ![0] bcast_S1024_S1024x1x1_0 (rd X main_v17) := by
  unfold rd
  after_results
theorem p4_21 : rd (after hostOps0_4 X) main_v21 = takeP (rd X main_v11) (rd X main_v20) := by
  unfold rd
  after_results
  rfl
theorem p5_22 : rd (after hostOps0_5 X) main_v22 = shapeCast S1024x16 (rd X main_v21) shapeCasts_S1024x1x16_S1024x16 := by
  unfold rd
  after_results
  rfl
theorem p6_23 : rd (after hostOps0_6 X) main_v23 = takeU (rd X main_v10) (rd X main_v17) := by
  unfold rd
  after_results
  rfl
theorem p7_25 : rd (after hostOps0_7 X) main_v25 = addf (F := Ideal) (φ := .f32) (rd X main_v19) (mixV (rd X main_v22) (rd X main_v23)) := by
  unfold rd
  after_results
  rfl
theorem p7_27 : rd (after hostOps0_7 X) main_v27 = allVotes (rd X main_v4_5) (rd X main_v17) := by
  unfold rd
  after_results
  rfl
theorem p8_28 : rd (after hostOps0_8 X) main_v28 = hotV (rd X main_v27) := by
  unfold rd
  after_results
  rfl
theorem p9_29 : rd (after hostOps0_9 X) main_v29 = countV (rd X main_v28) := by
  unfold rd
  after_results
  rfl
theorem p10_30 : rd (after hostOps0_10 X) main_v30 = argV (rd X main_v29) := by
  unfold rd
  after_results
  rfl
theorem p11_34 : rd (after hostOps0_11 X) main_v34 = headV (rd X main_v25) (rd X main_arg4) (rd X main_arg5) := by
  unfold rd
  after_results
  rfl
theorem p12_35 : rd (after hostOps0_12 X) main_v35 = hot1 (rd X main_v30) := by
  unfold rd
  after_results
  rfl
theorem p13_36 : rd (after hostOps0_13 X) main_v36 = finV (rd X main_v35) (rd X main_v34) := by
  unfold rd
  after_results
  rfl

end Cert.ReferenceIdeal.Hand
-- ==== Proof.RefSlices.lean ====
/- The reference's layers of the stacks, its rows of votes, its counts and its heads, read at one position. Hand-written. -/
module

public import proofs.«01_k».proof.Proof.RefTail
public import Idealize.ShloMosaic.Lib.DynamicIndex

@[expose] public section

set_option maxRecDepth 16384

noncomputable section

namespace Cert.ReferenceIdeal.Hand

open Idealize.ShloMosaic Idealize.SL.Sem
open Cert.ReferenceIdeal Cert.ReferenceIdeal.Gen

/-- The first eleven layers' matrices. -/
def firstW (w : FVec Ideal S12x768x768 .f32) : FVec Ideal S11x768x768 .f32 := extractStridedSlice S11x768x768 ![0, 0, 0] w slices_S12x768x768_S11x768x768_0_0_0
/-- The first eleven layers' directions. -/
def firstV (v : FVec Ideal S12x8x16x768 .f32) : FVec Ideal S11x8x16x768 .f32 :=
  extractStridedSlice S11x8x16x768 ![0, 0, 0, 0] v slices_S12x8x16x768_S11x8x16x768_0_0_0_0
/-- The first eleven layers' tables. -/
def firstU (u : FVec Ideal S12x8x768x16 .f32) : FVec Ideal S11x8x768x16 .f32 :=
  extractStridedSlice S11x8x768x16 ![0, 0, 0, 0] u slices_S12x8x768x16_S11x8x768x16_0_0_0_0

/-- The counter after `k` trips. -/
def ctr (k : ℕ) : IVec S_ 32 := fun _ => BitVec.ofNat 32 k

theorem toInt_small (k : ℕ) (hk : k < 11) : (BitVec.ofNat 32 k).toInt = (k : Int) := toInt_ofNat_of_lt (by omega)

theorem lay_small (k : ℕ) (hk : k < 11) : Spec.lay k = ⟨k, by omega⟩ := Fin.ext (show min k 11 = k by omega)

theorem at3_ctr (k : ℕ) (hk : k < 11) (a : Fin 3) : at3 (ctr k) a = ((![k, 0, 0] : Fin 3 → ℕ) a : Int) := by
  match a with
  | ⟨0, _⟩ => exact toInt_small k hk
  | ⟨1, _⟩ => rfl
  | ⟨2, _⟩ => rfl

theorem at4_ctr (k : ℕ) (hk : k < 11) (a : Fin 4) : at4 (ctr k) a = ((![k, 0, 0, 0] : Fin 4 → ℕ) a : Int) := by
  match a with
  | ⟨0, _⟩ => exact toInt_small k hk
  | ⟨1, _⟩ => rfl
  | ⟨2, _⟩ => rfl
  | ⟨3, _⟩ => rfl

theorem at2_ctr (k : ℕ) (hk : k < 11) (a : Fin 2) : at2 (ctr k) a = ((![k, 0] : Fin 2 → ℕ) a : Int) := by
  match a with
  | ⟨0, _⟩ => exact toInt_small k hk
  | ⟨1, _⟩ => rfl

theorem fitsW (k : ℕ) (hk : k < 11) : S11x768x768.Slices (![k, 0, 0] : Fin 3 → ℕ) S1x768x768 := by
  refine ⟨rfl, fun a => ?_⟩
  match a with
  | ⟨0, _⟩ => show k + 1 ≤ 11; omega
  | ⟨1, _⟩ => show 0 + 768 ≤ 768; omega
  | ⟨2, _⟩ => show 0 + 768 ≤ 768; omega

theorem fitsV (k : ℕ) (hk : k < 11) : S11x8x16x768.Slices (![k, 0, 0, 0] : Fin 4 → ℕ) S1x8x16x768 := by
  refine ⟨rfl, fun a => ?_⟩
  match a with
  | ⟨0, _⟩ => show k + 1 ≤ 11; omega
  | ⟨1, _⟩ => show 0 + 8 ≤ 8; omega
  | ⟨2, _⟩ => show 0 + 16 ≤ 16; omega
  | ⟨3, _⟩ => show 0 + 768 ≤ 768; omega

theorem fitsU (k : ℕ) (hk : k < 11) : S11x8x768x16.Slices (![k, 0, 0, 0] : Fin 4 → ℕ) S1x8x768x16 := by
  refine ⟨rfl, fun a => ?_⟩
  match a with
  | ⟨0, _⟩ => show k + 1 ≤ 11; omega
  | ⟨1, _⟩ => show 0 + 8 ≤ 8; omega
  | ⟨2, _⟩ => show 0 + 768 ≤ 768; omega
  | ⟨3, _⟩ => show 0 + 16 ≤ 16; omega

/-- The loop's matrix at trip `k` is layer `k`'s. -/
theorem sliceW_apply (w : FVec Ideal S12x768x768 .f32) (k : ℕ) (hk : k < 11) (d e : Fin 768) :
    sliceW (firstW w) (ctr k) (ix2 d e) = w (ix3 (Spec.lay k) d e) := by
  unfold sliceW
  rw [Host.dynamicSlice_eq_extractStridedSlice _ _ _ _ _ (fitsW k hk) (at3_ctr k hk), lay_small k hk]
  pointwise [firstW]
  try rfl

/-- The loop's directions at trip `k` are layer `k`'s. -/
theorem sliceV_apply (v : FVec Ideal S12x8x16x768 .f32) (k : ℕ) (hk : k < 11) (t : Fin 8) (r : Fin 16) (d : Fin 768) :
    sliceV (firstV v) (ctr k) (ix3 t r d) = v (ix4 (Spec.lay k) t r d) := by
  unfold sliceV
  rw [Host.dynamicSlice_eq_extractStridedSlice _ _ _ _ _ (fitsV k hk) (at4_ctr k hk), lay_small k hk]
  pointwise [firstV]
  try rfl

/-- The loop's tables at trip `k` are layer `k`'s. -/
theorem sliceU_apply (u : FVec Ideal S12x8x768x16 .f32) (k : ℕ) (hk : k < 11) (t : Fin 8) (d : Fin 768) (r : Fin 16) :
    sliceU (firstU u) (ctr k) (ix3 t d r) = u (ix4 (Spec.lay k) t d r) := by
  unfold sliceU
  rw [Host.dynamicSlice_eq_extractStridedSlice _ _ _ _ _ (fitsU k hk) (at4_ctr k hk), lay_small k hk]
  pointwise [firstU]
  try rfl

theorem lastW_apply (w : FVec Ideal S12x768x768 .f32) (d e : Fin 768) : lastW w (ix2 d e) = w (ix3 (Spec.lay 11) d e) := by
  pointwise [lastW]
  try rfl

theorem lastV_apply (v : FVec Ideal S12x8x16x768 .f32) (t : Fin 8) (r : Fin 16) (d : Fin 768) :
    lastV v (ix3 t r d) = v (ix4 (Spec.lay 11) t r d) := by
  pointwise [lastV]
  try rfl

theorem lastU_apply (u : FVec Ideal S12x8x768x16 .f32) (t : Fin 8) (d : Fin 768) (r : Fin 16) :
    lastU u (ix3 t d r) = u (ix4 (Spec.lay 11) t d r) := by
  pointwise [lastU]
  try rfl

/-- The row of votes that trip `k` writes. -/
theorem putVote_apply (y : IVec S11x1024 32) (s : IVec S1024 32) (k : ℕ) (hk : k < 11) (j : Fin 11) (b : Fin 1024) :
    putVote y s (ctr k) (ix2 j b) = if j.val = k then s (ix1 b) else y (ix2 j b) := by
  have h0 : ∀ a, Host.clampedStart S11x1024 S1x1024 rfl (at2 (ctr k)) a = (![k, 0] : Fin 2 → ℕ) a := fun a =>
    Host.clampedStart_of_le _ _ a _ (at2_ctr k hk a) (by
      match a with
      | ⟨0, _⟩ => show k + 1 ≤ 11; omega
      | ⟨1, _⟩ => show 0 + 1024 ≤ 1024; omega)
  unfold putVote
  rw [Host.dynamicUpdateSlice_apply]
  split
  · rename_i h
    have h1 : Host.clampedStart S11x1024 S1x1024 rfl (at2 (ctr k)) 0 ≤ j.val ∧ j.val < Host.clampedStart S11x1024 S1x1024 rfl (at2 (ctr k)) 0 + 1 := h 0
    rw [h0] at h1
    have h2 : k ≤ j.val ∧ j.val < k + 1 := h1
    rw [if_pos (by omega)]
    unfold broadcastInDim
    refine congrArg s (funext fun c => Fin.ext ?_)
    match c with
    | ⟨0, _⟩ =>
      split
      · rename_i hx
        exact absurd hx (show ¬ (1024 : ℕ) = 1 by decide)
      · show b.val - Host.clampedStart S11x1024 S1x1024 rfl (at2 (ctr k)) (1 : Fin 2) = b.val
        rw [h0]
        rfl
  · rename_i h
    rw [if_neg]
    intro hj
    refine h fun a => ?_
    rw [h0]
    match a with
    | ⟨0, _⟩ => exact ⟨hj.ge, show j.val < k + 1 by omega⟩
    | ⟨1, _⟩ => exact ⟨Nat.zero_le _, show b.val < 0 + 1024 by omega⟩

theorem word_eq (s t : Fin 8) : IntOp.cmpi .eq (BitVec.ofNat 32 s.val) (BitVec.ofNat 32 t.val) = BitVec.ofBool (decide (s = t)) := by
  revert s t; decide +kernel

/-- A bit converted is 0 or 1. -/
theorem uitofp_ofBool (p : Bool) : FloatOps.uitofp (F := Ideal) FTy.f32 (BitVec.ofBool p) = if p then (1 : EReal) else 0 := by
  cases p
  · show (((BitVec.ofBool false).toNat : ℝ) : EReal) = _
    rw [show (BitVec.ofBool false).toNat = 0 by decide]; simp
  · show (((BitVec.ofBool true).toNat : ℝ) : EReal) = _
    rw [show (BitVec.ofBool true).toNat = 1 by decide]; simp

/-- The twelve votes of a row, the last of them the last layer's. -/
theorem allVotes_apply (y : IVec S11x1024 32) (s : IVec S1024 32) (ν : ℕ → Fin 1024 → Fin 8)
    (hy : ∀ (j : Fin 11) b, y (ix2 j b) = BitVec.ofNat 32 (ν j.val b).val) (hs : ∀ b, s (ix1 b) = BitVec.ofNat 32 (ν 11 b).val)
    (j : Fin 12) (b : Fin 1024) : allVotes y s (ix2 j b) = BitVec.ofNat 32 (ν j.val b).val := by
  pointwise [allVotes]
  split
  · rename_i h
    exact hy ⟨j.val, h⟩ b
  · rename_i h
    rw [hs, show j.val = 11 by omega]

/-- The count of the votes for a place. -/
theorem countV_apply (z : IVec S12x1024 32) (ν : ℕ → Fin 1024 → Fin 8) (hz : ∀ (j : Fin 12) b, z (ix2 j b) = BitVec.ofNat 32 (ν j.val b).val)
    (b : Fin 1024) (t : Fin 8) :
    countV (hotV z) (ix2 b t) = ∑ j ∈ Finset.range 12, if ν j b = t then (1 : EReal) else 0 := by
  rw [Finset.sum_range]
  pointwise [countV, hotV]
  simp only [hz, word_eq, uitofp_ofBool, decide_eq_true_eq]

/-- The winner's head applied to the features. -/
theorem finV_apply (f : FVec Ideal S1024x768 .f32) (hw : FVec Ideal S8x100x768 .f32) (hb : FVec Ideal S8x100 .f32) (s : IVec S1024 32)
    (σ : Fin 1024 → Fin 8) (hs : ∀ b, s (ix1 b) = BitVec.ofNat 32 (σ b).val) (b : Fin 1024) (c : Fin 100) :
    finV (hot1 s) (headV f hw hb) (ix2 b c) = (∑ d, f (ix2 b d) * hw (ix3 (σ b) c d)) + hb (ix2 (σ b) c) := by
  pointwise [finV, hot1, headV]
  simp only [hs, word_eq, uitofp_ofBool, decide_eq_true_eq]
  rw [Finset.sum_eq_single (σ b)]
  · rw [if_pos rfl, one_mul]
  · intro t _ ht
    rw [if_neg (Ne.symm ht), zero_mul]
  · intro h
    exact absurd (Finset.mem_univ _) h

end Cert.ReferenceIdeal.Hand
-- ==== Proof.RefSteps.lean ====
/- What the reference's stretches leave alone, and with it the loop body and the tail as one step each. Hand-written. -/
module

public import proofs.«01_k».proof.Proof.RefSlices

@[expose] public section

set_option maxRecDepth 100000

noncomputable section

namespace Cert.ReferenceIdeal.Hand

open Idealize.ShloMosaic Idealize.ShloMosaic.TcCoe Idealize.ShloMosaic.Tactic
open Idealize.SL.Sem
open Idealize.ShloMosaic.StableHlo
open Cert.ReferenceIdeal Cert.ReferenceIdeal.Gen Cert.ReferenceIdeal.Value

variable (X : Valuation τ sig (Elt Ideal)) (b : Ref sig .tc)

/-- A stretch leaves alone every buffer it does not write. -/
theorem keep {W : List (Ref sig .tc)} {L : List (HloOp τ sig (Elt Ideal))}
    (hW : L.Forall fun op => op.writes ⊆ (W.map (Proc.devRef (τ := τ) .tc)).toFinset) (h : b ∉ W) : rd (after L X) b = rd X b :=
  after_of_writes_sub L X hW h

theorem k0 (h : b ∉ while0Ops0_W) : rd (after while0Ops0 X) b = rd X b := keep X b while0Ops0_writes h
theorem k1 (h : b ∉ while0Ops0_1_W) : rd (after while0Ops0_1 X) b = rd X b := keep X b while0Ops0_1_writes h
theorem k2 (h : b ∉ while0Ops0_2_W) : rd (after while0Ops0_2 X) b = rd X b := keep X b while0Ops0_2_writes h
theorem k3 (h : b ∉ while0Ops0_3_W) : rd (after while0Ops0_3 X) b = rd X b := keep X b while0Ops0_3_writes h
theorem k4 (h : b ∉ while0Ops0_4_W) : rd (after while0Ops0_4 X) b = rd X b := keep X b while0Ops0_4_writes h
theorem k5 (h : b ∉ while0Ops0_5_W) : rd (after while0Ops0_5 X) b = rd X b := keep X b while0Ops0_5_writes h
theorem k6 (h : b ∉ while0Ops0_6_W) : rd (after while0Ops0_6 X) b = rd X b := keep X b while0Ops0_6_writes h
theorem k7 (h : b ∉ while0Ops0_7_W) : rd (after while0Ops0_7 X) b = rd X b := keep X b while0Ops0_7_writes h
theorem k8 (h : b ∉ while0Ops0_8_W) : rd (after while0Ops0_8 X) b = rd X b := keep X b while0Ops0_8_writes h
theorem k9 (h : b ∉ while0Ops0_9_W) : rd (after while0Ops0_9 X) b = rd X b := keep X b while0Ops0_9_writes h
theorem k10 (h : b ∉ while0Ops0_10_W) : rd (after while0Ops0_10 X) b = rd X b := keep X b while0Ops0_10_writes h
theorem k11 (h : b ∉ while0Ops0_11_W) : rd (after while0Ops0_11 X) b = rd X b := keep X b while0Ops0_11_writes h
theorem kc (h : b ∉ condOps_W) : rd (after condOps X) b = rd X b := keep X b condOps_writes h
theorem ke (h : b ∉ hostOps0_W) : rd (after hostOps0 X) b = rd X b := keep X b hostOps0_writes h

/-- What stretch 1 of the tail writes. -/
abbrev q1W : List (Ref sig .tc) := [main_v5, main_v6, main_v7, main_v8, main_v9, main_v10, main_v11, main_v12, main_cst, main_v13, main_cst_1, main_v14, main_v15, main_v16]
theorem q1 (h : b ∉ q1W) : rd (after hostOps0_1 X) b = rd X b := keep X b (L := hostOps0_1) (StableHlo.forall_writes_sub_of_map rfl) h
/-- What stretch 2 of the tail writes. -/
abbrev q2W : List (Ref sig .tc) := [main_call7_v0, main_call7_cst, main_call7_c, main_call7_v1_0, main_v17]
theorem q2 (h : b ∉ q2W) : rd (after hostOps0_2 X) b = rd X b := keep X b (L := hostOps0_2) (StableHlo.forall_writes_sub_of_map rfl) h
/-- What stretch 3 of the tail writes. -/
abbrev q3W : List (Ref sig .tc) := [main_v18, main_v19, main_v20]
theorem q3 (h : b ∉ q3W) : rd (after hostOps0_3 X) b = rd X b := keep X b (L := hostOps0_3) (StableHlo.forall_writes_sub_of_map rfl) h
/-- What stretch 4 of the tail writes. -/
abbrev q4W : List (Ref sig .tc) := [main_call8_c, main_call8_v0, main_call8_v1, main_call8_c_0, main_call8_v2, main_call8_v3, main_call8_v4, main_call8_c_1, main_call8_c_2, main_call8_v5, main_call8_v6, main_call8_v7, main_call8_v8, main_call8_v9, main_call8_v10, main_call8_c_3, main_call8_v11, main_call8_v12, main_call8_v13, main_call8_cst, main_call8_v14, main_v21]
theorem q4 (h : b ∉ q4W) : rd (after hostOps0_4 X) b = rd X b := keep X b (L := hostOps0_4) (StableHlo.forall_writes_sub_of_map rfl) h
/-- What stretch 5 of the tail writes. -/
abbrev q5W : List (Ref sig .tc) := [main_v22]
theorem q5 (h : b ∉ q5W) : rd (after hostOps0_5 X) b = rd X b := keep X b (L := hostOps0_5) (StableHlo.forall_writes_sub_of_map rfl) h
/-- What stretch 6 of the tail writes. -/
abbrev q6W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v23]
theorem q6 (h : b ∉ q6W) : rd (after hostOps0_6 X) b = rd X b := keep X b (L := hostOps0_6) (StableHlo.forall_writes_sub_of_map rfl) h
/-- What stretch 7 of the tail writes. -/
abbrev q7W : List (Ref sig .tc) := [main_v24, main_v25, main_v26, main_v27]
theorem q7 (h : b ∉ q7W) : rd (after hostOps0_7 X) b = rd X b := keep X b (L := hostOps0_7) (StableHlo.forall_writes_sub_of_map rfl) h
/-- What stretch 8 of the tail writes. -/
abbrev q8W : List (Ref sig .tc) := [main_call10_v0, main_call10_v1, main_call10_v2, main_call10_v3, main_call10_v4, main_v28]
theorem q8 (h : b ∉ q8W) : rd (after hostOps0_8 X) b = rd X b := keep X b (L := hostOps0_8) (StableHlo.forall_writes_sub_of_map rfl) h
/-- What stretch 9 of the tail writes. -/
abbrev q9W : List (Ref sig .tc) := [main_cst_2, main_v29]
theorem q9 (h : b ∉ q9W) : rd (after hostOps0_9 X) b = rd X b := keep X b (L := hostOps0_9) (StableHlo.forall_writes_sub_of_map rfl) h
/-- What stretch 10 of the tail writes. -/
abbrev q10W : List (Ref sig .tc) := [main_call11_v0, main_call11_cst, main_call11_c, main_call11_v1_0, main_v30]
theorem q10 (h : b ∉ q10W) : rd (after hostOps0_10 X) b = rd X b := keep X b (L := hostOps0_10) (StableHlo.forall_writes_sub_of_map rfl) h
/-- What stretch 11 of the tail writes. -/
abbrev q11W : List (Ref sig .tc) := [main_v31, main_v32, main_v33, main_v34]
theorem q11 (h : b ∉ q11W) : rd (after hostOps0_11 X) b = rd X b := keep X b (L := hostOps0_11) (StableHlo.forall_writes_sub_of_map rfl) h
/-- What stretch 12 of the tail writes. -/
abbrev q12W : List (Ref sig .tc) := [main_call12_v0, main_call12_v1, main_call12_v2, main_call12_v3, main_call12_v4, main_v35]
theorem q12 (h : b ∉ q12W) : rd (after hostOps0_12 X) b = rd X b := keep X b (L := hostOps0_12) (StableHlo.forall_writes_sub_of_map rfl) h
/-- What stretch 13 of the tail writes. -/
abbrev q13W : List (Ref sig .tc) := [main_v36]
theorem q13 (h : b ∉ q13W) : rd (after hostOps0_13 X) b = rd X b := keep X b (L := hostOps0_13) (StableHlo.forall_writes_sub_of_map rfl) h

/-- The activations after one trip. -/
theorem body_x : rd (afterL bodyI X) main_v4_4 = geluV (featV (rd X main_v4_4) (sliceW (rd X main_v4_0) (rd X main_v4_3))
    (sliceV (rd X main_v4_1) (rd X main_v4_3)) (sliceU (rd X main_v4_2) (rd X main_v4_3))) := by
  simp only [afterL_cons, afterL_nil]
  simp (disch := decide +kernel) only [k0, k1, k2, k3, k4, k5, k6, k7, k8, k9, k10, k11, b0_37, b1_38, b2_39, b3_40, b3_45, b4_46, b5_48, b5_49,
    b6_50, b7_51, b8_52, b9_67, b11_4]
  rfl

/-- The votes after one trip. -/
theorem body_y : rd (afterL bodyI X) main_v4_5 = putVote (rd X main_v4_5) (selV (rd X main_v4_4) (sliceV (rd X main_v4_1) (rd X main_v4_3))) (rd X main_v4_3) := by
  simp only [afterL_cons, afterL_nil]
  simp (disch := decide +kernel) only [k0, k1, k2, k3, k4, k5, k6, k7, k8, k9, k10, k11, b1_38, b3_45, b4_46, b10_68, b11_5]
  rfl

/-- Every buffer that no stretch of the body writes. -/
theorem body_keep (h : b ∉ while0Ops0_W ++ while0Ops0_1_W ++ while0Ops0_2_W ++ while0Ops0_3_W ++ while0Ops0_4_W ++ while0Ops0_5_W ++ while0Ops0_6_W
    ++ while0Ops0_7_W ++ while0Ops0_8_W ++ while0Ops0_9_W ++ while0Ops0_10_W ++ while0Ops0_11_W) : rd (afterL bodyI X) b = rd X b := by
  simp only [List.mem_append, not_or] at h
  obtain ⟨⟨⟨⟨⟨⟨⟨⟨⟨⟨⟨h0, h1⟩, h2⟩, h3⟩, h4⟩, h5⟩, h6⟩, h7⟩, h8⟩, h9⟩, h10⟩, h11⟩ := h
  simp only [afterL_cons, afterL_nil]
  rw [k11 _ _ h11, k10 _ _ h10, k9 _ _ h9, k8 _ _ h8, k7 _ _ h7, k6 _ _ h6, k5 _ _ h5, k4 _ _ h4, k3 _ _ h3, k2 _ _ h2, k1 _ _ h1, k0 _ _ h0]

/-- Every buffer that no stretch of the tail writes. -/
theorem tail_keep (h : b ∉ q1W ++ q2W ++ q3W ++ q4W ++ q5W ++ q6W ++ q7W ++ q8W ++ q9W ++ q10W ++ q11W ++ q12W ++ q13W) :
    rd (afterL postI X) b = rd X b := by
  simp only [List.mem_append, not_or] at h
  obtain ⟨⟨⟨⟨⟨⟨⟨⟨⟨⟨⟨⟨h1, h2⟩, h3⟩, h4⟩, h5⟩, h6⟩, h7⟩, h8⟩, h9⟩, h10⟩, h11⟩, h12⟩, h13⟩ := h
  simp only [afterL_cons, afterL_nil]
  rw [q13 _ _ h13, q12 _ _ h12, q11 _ _ h11, q10 _ _ h10, q9 _ _ h9, q8 _ _ h8, q7 _ _ h7, q6 _ _ h6, q5 _ _ h5, q4 _ _ h4, q3 _ _ h3, q2 _ _ h2, q1 _ _ h1]

/-- The last layer, the vote and the heads, from what the loop leaves. -/
def tailV (x : FVec Ideal S1024x768 .f32) (y : IVec S11x1024 32) (w : FVec Ideal S12x768x768 .f32) (v : FVec Ideal S12x8x16x768 .f32)
    (u : FVec Ideal S12x8x768x16 .f32) (hw : FVec Ideal S8x100x768 .f32) (hb : FVec Ideal S8x100 .f32) : FVec Ideal S1024x100 .f32 :=
  finV (hot1 (argV (countV (hotV (allVotes y (selV x (lastV v))))))) (headV (featV x (lastW w) (lastV v) (lastU u)) hw hb)

/-- The result after the tail. -/
theorem tail_out : rd (afterL postI X) main_v36 = tailV (rd X main_v4_4) (rd X main_v4_5) (rd X main_arg1) (rd X main_arg2) (rd X main_arg3)
    (rd X main_arg4) (rd X main_arg5) := by
  simp only [afterL_cons, afterL_nil]
  simp (disch := decide +kernel) only [q1, q2, q3, q4, q5, q6, q7, q8, q9, q10, q11, q12, q13, p1_6, p1_8, p1_10, p1_11, p1_16, p2_17, p3_19, p3_20,
    p4_21, p5_22, p6_23, p7_25, p7_27, p8_28, p9_29, p10_30, p11_34, p12_35, p13_36]
  rfl

end Cert.ReferenceIdeal.Hand
-- ==== Proof.RefRun.lean ====
/- The reference's run: what the loop holds at every trip, and what the tail makes of it. Hand-written. -/
module

public import proofs.«01_k».proof.Proof.RefSteps

@[expose] public section

set_option maxRecDepth 100000

noncomputable section

namespace Cert.ReferenceIdeal.Hand

open Idealize.ShloMosaic Idealize.ShloMosaic.TcCoe Idealize.ShloMosaic.Tactic
open Idealize.SL.Sem
open Idealize.ShloMosaic.StableHlo
open Cert.ReferenceIdeal Cert.ReferenceIdeal.Gen Cert.ReferenceIdeal.Value

section Pure

variable (x : FVec Ideal S1024x768 .f32) (w : FVec Ideal S12x768x768 .f32) (v : FVec Ideal S12x8x16x768 .f32) (u : FVec Ideal S12x8x768x16 .f32)
  (hw : FVec Ideal S8x100x768 .f32) (hb : FVec Ideal S8x100 .f32)

/-- The activations that layer `k` takes, by batch row and column. -/
def rowV (k : ℕ) (b : Fin 1024) : Fin 768 → EReal :=
  Spec.row (fun d => x (ix2 b d)) (fun l d e => w (ix3 l d e)) (fun l t r d => v (ix4 l t r d)) (fun l t d r => u (ix4 l t d r)) k

/-- The expert that layer `k` chooses for a batch row. -/
def voteV (k : ℕ) (b : Fin 1024) : Fin 8 :=
  Spec.vote (fun d => x (ix2 b d)) (fun l d e => w (ix3 l d e)) (fun l t r d => v (ix4 l t r d)) (fun l t d r => u (ix4 l t d r)) k

/-- The network's result as an array. -/
def outV : FVec Ideal S1024x100 .f32 := fun i =>
  Spec.out (fun d => x (ix2 (i 0) d)) (fun l d e => w (ix3 l d e)) (fun l t r d => v (ix4 l t r d)) (fun l t d r => u (ix4 l t d r))
    (fun t c d => hw (ix3 t c d)) (fun t c => hb (ix2 t c)) (i 1)

/-- One trip takes layer `k`'s activations to layer `k + 1`'s. -/
theorem trip_x (k : ℕ) (hk : k < 11) (y : FVec Ideal S1024x768 .f32) (hy : ∀ b d, y (ix2 b d) = rowV x w v u k b d) (b : Fin 1024) (d : Fin 768) :
    geluV (featV y (sliceW (firstW w) (ctr k)) (sliceV (firstV v) (ctr k)) (sliceU (firstU u) (ctr k))) (ix2 b d) = rowV x w v u (k + 1) b d := by
  rw [geluV_apply, featV_apply]
  simp only [hy, sliceW_apply w k hk, sliceV_apply v k hk, sliceU_apply u k hk]
  rfl

/-- The choice that trip `k` records is layer `k`'s. -/
theorem trip_s (k : ℕ) (hk : k < 11) (y : FVec Ideal S1024x768 .f32) (hy : ∀ b d, y (ix2 b d) = rowV x w v u k b d) (b : Fin 1024) :
    selV y (sliceV (firstV v) (ctr k)) (ix1 b) = BitVec.ofNat 32 (voteV x w v u k b).val := by
  rw [selV_apply]
  simp only [hy, sliceV_apply v k hk]
  rfl

/-- From layer 11's activations and the first eleven layers' choices the tail makes the result. -/
theorem tail_eq (y : FVec Ideal S1024x768 .f32) (hy : ∀ b d, y (ix2 b d) = rowV x w v u 11 b d) (z : IVec S11x1024 32)
    (hz : ∀ (j : Fin 11) b, z (ix2 j b) = BitVec.ofNat 32 (voteV x w v u j.val b).val) : tailV y z w v u hw hb = outV x w v u hw hb := by
  funext i
  idx_vars i
  rename' i0 => b, i1 => c
  have hs : ∀ b, selV y (lastV v) (ix1 b) = BitVec.ofNat 32 (voteV x w v u 11 b).val := fun b => by
    rw [selV_apply]
    simp only [hy, lastV_apply]
    rfl
  have hp : ∀ b, argV (countV (hotV (allVotes z (selV y (lastV v))))) (ix1 b)
      = BitVec.ofNat 32 (Spec.major (fun d => x (ix2 b d)) (fun l d e => w (ix3 l d e)) (fun l t r d => v (ix4 l t r d)) (fun l t d r => u (ix4 l t d r))).val :=
    fun b => (argmax_apply _ b).trans (congrArg (fun f => BitVec.ofNat 32 (Spec.pick f).val) (funext fun t =>
      countV_apply _ (voteV x w v u) (allVotes_apply z _ (voteV x w v u) hz hs) b t))
  unfold tailV
  rw [finV_apply _ _ _ _ _ hp]
  simp only [featV_apply, hy, lastW_apply, lastV_apply, lastU_apply]
  rfl

end Pure

variable (m : (ℓ : Loc nD τ sig) → Buf (Elt Ideal) ℓ) (ρ : Dev nD → PrngReg) (c : Dev nD)

/-- The batch. -/
abbrev A0 : FVec Ideal S1024x768 .f32 := m ((c : Thread nD τ).loc main_arg0)
/-- The base weights. -/
abbrev A1 : FVec Ideal S12x768x768 .f32 := m ((c : Thread nD τ).loc main_arg1)
/-- The directions. -/
abbrev A2 : FVec Ideal S12x8x16x768 .f32 := m ((c : Thread nD τ).loc main_arg2)
/-- The corrections. -/
abbrev A3 : FVec Ideal S12x8x768x16 .f32 := m ((c : Thread nD τ).loc main_arg3)
/-- The heads. -/
abbrev A4 : FVec Ideal S8x100x768 .f32 := m ((c : Thread nD τ).loc main_arg4)
/-- The biases. -/
abbrev A5 : FVec Ideal S8x100 .f32 := m ((c : Thread nD τ).loc main_arg5)

/-! ## The loop's entry -/

theorem entry_w : rd (entryContents preI m c) main_v4_0 = firstW (A1 m c) := by
  unfold rd; simp only [entryContents, afterL_cons, afterL_nil]; after_reads_simp; rfl
theorem entry_v : rd (entryContents preI m c) main_v4_1 = firstV (A2 m c) := by
  unfold rd; simp only [entryContents, afterL_cons, afterL_nil]; after_reads_simp; rfl
theorem entry_u : rd (entryContents preI m c) main_v4_2 = firstU (A3 m c) := by
  unfold rd; simp only [entryContents, afterL_cons, afterL_nil]; after_reads_simp; rfl
theorem entry_x : rd (entryContents preI m c) main_v4_4 = A0 m c := by
  unfold rd; simp only [entryContents, afterL_cons, afterL_nil]; after_reads_simp; rfl
theorem entry_keep (b : Ref sig .tc) (h : b ∉ hostOps0_W) : rd (entryContents preI m c) b = m ((c : Thread nD τ).loc b) := by
  simp only [entryContents, afterL_cons, afterL_nil]
  exact ke _ b h

/-! ## The trips -/

theorem step_eq (k : ℕ) : atK m (k + 1) c = afterL bodyI (after condOps (atK m k c)) := rfl

/-- What every trip leaves alone holds, before every trip, what it held at the loop's entry. -/
theorem at_keep (b : Ref sig .tc) (h : b ∉ while0Ops0_W ++ while0Ops0_1_W ++ while0Ops0_2_W ++ while0Ops0_3_W ++ while0Ops0_4_W ++ while0Ops0_5_W ++ while0Ops0_6_W
    ++ while0Ops0_7_W ++ while0Ops0_8_W ++ while0Ops0_9_W ++ while0Ops0_10_W ++ while0Ops0_11_W) (hc : b ∉ condOps_W) :
    ∀ k, rd (atK m k c) b = rd (entryContents preI m c) b
  | 0 => rfl
  | k + 1 => by rw [step_eq, body_keep _ _ h, kc _ _ hc, at_keep b h hc k]

theorem at_w (k : ℕ) : rd (atK m k c) main_v4_0 = firstW (A1 m c) :=
  (at_keep m c main_v4_0 (by decide +kernel) (by decide +kernel) k).trans (entry_w m c)
theorem at_v (k : ℕ) : rd (atK m k c) main_v4_1 = firstV (A2 m c) :=
  (at_keep m c main_v4_1 (by decide +kernel) (by decide +kernel) k).trans (entry_v m c)
theorem at_u (k : ℕ) : rd (atK m k c) main_v4_2 = firstU (A3 m c) :=
  (at_keep m c main_v4_2 (by decide +kernel) (by decide +kernel) k).trans (entry_u m c)
theorem at_ctr (k : ℕ) : rd (atK m k c) main_v4_3 = ctr k :=
  (atK_ctr m c k).trans (funext fun _ => by
    show 0#32 + BitVec.ofNat 32 k * 1#32 = BitVec.ofNat 32 k
    simp)

/-- The activations before trip `k`. -/
theorem at_x : ∀ k ≤ 11, ∀ b d, (rd (atK m k c) main_v4_4 : FVec Ideal S1024x768 .f32) (ix2 b d) = rowV (A0 m c) (A1 m c) (A2 m c) (A3 m c) k b d
  | 0, _, b, d => congrFun (entry_x m c) (ix2 b d)
  | k + 1, hk, b, d => by
    have e : rd (atK m (k + 1) c) main_v4_4 = geluV (featV (rd (atK m k c) main_v4_4) (sliceW (firstW (A1 m c)) (ctr k))
        (sliceV (firstV (A2 m c)) (ctr k)) (sliceU (firstU (A3 m c)) (ctr k))) := by
      rw [step_eq, body_x, kc _ main_v4_0 (by decide +kernel), kc _ main_v4_1 (by decide +kernel), kc _ main_v4_2 (by decide +kernel),
        kc _ main_v4_3 (by decide +kernel), kc _ main_v4_4 (by decide +kernel), at_w, at_v, at_u, at_ctr]
    exact (congrFun e (ix2 b d)).trans (trip_x _ _ _ _ k (by omega) _ (at_x k (by omega)) b d)

/-- The votes before trip `k`: the rows of the layers done. -/
theorem at_y : ∀ k ≤ 11, ∀ (j : Fin 11) b, j.val < k →
    (rd (atK m k c) main_v4_5 : IVec S11x1024 32) (ix2 j b) = BitVec.ofNat 32 (voteV (A0 m c) (A1 m c) (A2 m c) (A3 m c) j.val b).val
  | 0, _, j, b, h => absurd h (Nat.not_lt_zero _)
  | k + 1, hk, j, b, h => by
    have e : rd (atK m (k + 1) c) main_v4_5 = putVote (rd (atK m k c) main_v4_5) (selV (rd (atK m k c) main_v4_4) (sliceV (firstV (A2 m c)) (ctr k))) (ctr k) := by
      rw [step_eq, body_y, kc _ main_v4_1 (by decide +kernel), kc _ main_v4_3 (by decide +kernel), kc _ main_v4_4 (by decide +kernel),
        kc _ main_v4_5 (by decide +kernel), at_v, at_ctr]
    refine (congrFun e (ix2 j b)).trans ((putVote_apply _ _ k (by omega) j b).trans ?_)
    split
    · rename_i hj
      rw [hj]
      exact trip_s _ _ _ _ k (by omega) _ (at_x m c k (by omega)) b
    · exact at_y k (by omega) j b (by omega)

/-! ## The end -/

/-- An argument's buffer at the end. -/
theorem end_keep (b : Ref sig .tc) (ht : b ∉ q1W ++ q2W ++ q3W ++ q4W ++ q5W ++ q6W ++ q7W ++ q8W ++ q9W ++ q10W ++ q11W ++ q12W ++ q13W)
    (h : b ∉ while0Ops0_W ++ while0Ops0_1_W ++ while0Ops0_2_W ++ while0Ops0_3_W ++ while0Ops0_4_W ++ while0Ops0_5_W ++ while0Ops0_6_W
      ++ while0Ops0_7_W ++ while0Ops0_8_W ++ while0Ops0_9_W ++ while0Ops0_10_W ++ while0Ops0_11_W) (hc : b ∉ condOps_W) (he : b ∉ hostOps0_W) :
    rd (finalContents condOps preI bodyI postI 11 m c) b = m ((c : Thread nD τ).loc b) :=
  (tail_keep _ b ht).trans ((kc _ b hc).trans ((at_keep m c b h hc 11).trans (entry_keep m c b he)))

/-- An argument's buffer at the loop's end. -/
theorem loop_keep (b : Ref sig .tc)
    (h : b ∉ while0Ops0_W ++ while0Ops0_1_W ++ while0Ops0_2_W ++ while0Ops0_3_W ++ while0Ops0_4_W ++ while0Ops0_5_W ++ while0Ops0_6_W
      ++ while0Ops0_7_W ++ while0Ops0_8_W ++ while0Ops0_9_W ++ while0Ops0_10_W ++ while0Ops0_11_W) (hc : b ∉ condOps_W) (he : b ∉ hostOps0_W) :
    rd (after condOps (atK m 11 c)) b = m ((c : Thread nD τ).loc b) :=
  (kc _ b hc).trans ((at_keep m c b h hc 11).trans (entry_keep m c b he))

/-- The result's buffer at the end. -/
theorem end_out : rd (finalContents condOps preI bodyI postI 11 m c) main_v36 = outV (A0 m c) (A1 m c) (A2 m c) (A3 m c) (A4 m c) (A5 m c) := by
  refine (tail_out _).trans ?_
  rw [loop_keep m c main_arg1 (by decide +kernel) (by decide +kernel) (by decide +kernel),
    loop_keep m c main_arg2 (by decide +kernel) (by decide +kernel) (by decide +kernel),
    loop_keep m c main_arg3 (by decide +kernel) (by decide +kernel) (by decide +kernel),
    loop_keep m c main_arg4 (by decide +kernel) (by decide +kernel) (by decide +kernel),
    loop_keep m c main_arg5 (by decide +kernel) (by decide +kernel) (by decide +kernel),
    kc _ main_v4_4 (by decide +kernel), kc _ main_v4_5 (by decide +kernel)]
  exact tail_eq (A0 m c) (A1 m c) (A2 m c) (A3 m c) (A4 m c) (A5 m c) _ (at_x m c 11 le_rfl) _ fun j b => at_y m c 11 le_rfl j b j.isLt

/-- The run: the result array at the network's result, the arguments unchanged, and every counter at zero. -/
theorem run : θ_run (defs (F := Ideal)) (onTc (τ := τ) (main (F := Ideal))) ⟨m, fun _ => 0, ρ⟩ fun r => (∀ c : Dev nD,
      r.2.mem ((c : Thread nD τ).loc main_v36) = outV (A0 m c) (A1 m c) (A2 m c) (A3 m c) (A4 m c) (A5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0 := by
  refine (θ_run defs _ _).mono (fun r h => ⟨fun c => ?_, funext fun g => ?_⟩) (run_fold m ρ)
  · have k : ∀ b : Ref sig .tc, (Proc.devRef .tc b : DevRef τ sig).isScoped = false →
        b ∉ q1W ++ q2W ++ q3W ++ q4W ++ q5W ++ q6W ++ q7W ++ q8W ++ q9W ++ q10W ++ q11W ++ q12W ++ q13W →
        b ∉ while0Ops0_W ++ while0Ops0_1_W ++ while0Ops0_2_W ++ while0Ops0_3_W ++ while0Ops0_4_W ++ while0Ops0_5_W ++ while0Ops0_6_W
          ++ while0Ops0_7_W ++ while0Ops0_8_W ++ while0Ops0_9_W ++ while0Ops0_10_W ++ while0Ops0_11_W → b ∉ condOps_W → b ∉ hostOps0_W →
        r.2.mem ((c : Thread nD τ).loc b) = m ((c : Thread nD τ).loc b) :=
      fun b hs ht hb hc he => (h c b hs).trans (end_keep m c b ht hb hc he)
    refine ⟨(h c main_v36 rfl).trans (end_out m c), k main_arg0 rfl ?_ ?_ ?_ ?_, k main_arg1 rfl ?_ ?_ ?_ ?_, k main_arg2 rfl ?_ ?_ ?_ ?_,
      k main_arg3 rfl ?_ ?_ ?_ ?_, k main_arg4 rfl ?_ ?_ ?_ ?_, k main_arg5 rfl ?_ ?_ ?_ ?_⟩ <;> decide +kernel
  · obtain ⟨t, s⟩ := g
    cases s with
    | reg s => exact s.elim0
    | dma s => exact s.elim0

end Cert.ReferenceIdeal.Hand

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun

@[expose] public section

noncomputable section

namespace Cert.Proof

open Idealize.ShloMosaic Idealize.SL.Sem Cert.Kernel

/-- The reference runs, leaves its arguments unchanged and ends with every counter at zero. -/
theorem reference_frame : Cert.quiescent_ReferenceIdeal (hReferenceIdeal := Cert.ReferenceIdeal.Gen.facts) := fun m g _ =>
  (θ_run Cert.ReferenceIdeal.defs _ _).mono (fun r h => ⟨fun c => (h.1 c).2, h.2⟩) (Cert.ReferenceIdeal.Hand.run m g)

/-- Over the extended reals kernel and reference, from the same arguments, end with the same result. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Hand.result m c, Cert.KernelIdeal.Hand.run m g,
    (θ_run Cert.ReferenceIdeal.defs _ _).mono (fun r h c => ⟨(h.1 c).1.trans ?_, (h.1 c).2⟩) (Cert.ReferenceIdeal.Hand.run m' g')⟩
  obtain ⟨h0, h1, h2, h3, h4, h5⟩ := hagree c
  unfold Cert.ReferenceIdeal.Hand.A0 Cert.ReferenceIdeal.Hand.A1 Cert.ReferenceIdeal.Hand.A2 Cert.ReferenceIdeal.Hand.A3
    Cert.ReferenceIdeal.Hand.A4 Cert.ReferenceIdeal.Hand.A5
  rw [h0, h1, h2, h3, h4, h5]
  rfl

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, algebraic⟩

end Cert.Proof

end
